-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x1x14208 : Shape := ⟨3, ![8, 1, 14208]⟩
abbrev S6912x7104 : Shape := ⟨2, ![6912, 7104]⟩
abbrev S6912x444 : Shape := ⟨2, ![6912, 444]⟩
abbrev S8x14208 : Shape := ⟨2, ![8, 14208]⟩
abbrev S7104x6912 : Shape := ⟨2, ![7104, 6912]⟩
abbrev S444x6912 : Shape := ⟨2, ![444, 6912]⟩
abbrev S8x6912 : Shape := ⟨2, ![8, 6912]⟩
abbrev S7104x768 : Shape := ⟨2, ![7104, 768]⟩
abbrev S444x768 : Shape := ⟨2, ![444, 768]⟩
abbrev S8x768 : Shape := ⟨2, ![8, 768]⟩
abbrev S8x128 : Shape := ⟨2, ![8, 128]⟩
abbrev S8x14336 : Shape := ⟨2, ![8, 14336]⟩
abbrev S8x256 : Shape := ⟨2, ![8, 256]⟩
abbrev S448x256 : Shape := ⟨2, ![448, 256]⟩
abbrev S256x256 : Shape := ⟨2, ![256, 256]⟩
abbrev S128x768 : Shape := ⟨2, ![128, 768]⟩
abbrev S256x768 : Shape := ⟨2, ![256, 768]⟩
abbrev S32x768 : Shape := ⟨2, ![32, 768]⟩
abbrev S64x768 : Shape := ⟨2, ![64, 768]⟩
abbrev S8x1x6912 : Shape := ⟨3, ![8, 1, 6912]⟩

abbrev nBuf : Space → Nat
  | .hbm => 10
  | .vmem => 12
  | .smem => 0
  | _ => 0

abbrev bufTy : (tb : Table) → Fin (tcTables nBuf tb) → BufTy
  | .hbm, ⟨0, _⟩ => ⟨S8x1x14208, .bf16⟩
  | .hbm, ⟨1, _⟩ => ⟨S6912x7104, .i8⟩
  | .hbm, ⟨2, _⟩ => ⟨S6912x444, .bf16⟩
  | .hbm, ⟨3, _⟩ => ⟨S6912x444, .bf16⟩
  | .hbm, ⟨4, _⟩ => ⟨S8x14208, .bf16⟩
  | .hbm, ⟨5, _⟩ => ⟨S7104x6912, .i8⟩
  | .hbm, ⟨6, _⟩ => ⟨S444x6912, .bf16⟩
  | .hbm, ⟨7, _⟩ => ⟨S444x6912, .bf16⟩
  | .hbm, ⟨8, _⟩ => ⟨S8x6912, .bf16⟩
  | .hbm, ⟨9, _⟩ => ⟨S8x1x6912, .bf16⟩
  | .local _ .vmem, ⟨0, _⟩ => ⟨S8x14208, .bf16⟩
  | .local _ .vmem, ⟨1, _⟩ => ⟨S7104x768, .i8⟩
  | .local _ .vmem, ⟨2, _⟩ => ⟨S7104x768, .i8⟩
  | .local _ .vmem, ⟨3, _⟩ => ⟨S444x768, .bf16⟩
  | .local _ .vmem, ⟨4, _⟩ => ⟨S444x768, .bf16⟩
  | .local _ .vmem, ⟨5, _⟩ => ⟨S444x768, .bf16⟩
  | .local _ .vmem, ⟨6, _⟩ => ⟨S444x768, .bf16⟩
  | .local _ .vmem, ⟨7, _⟩ => ⟨S8x768, .bf16⟩
  | .local _ .vmem, ⟨8, _⟩ => ⟨S8x768, .bf16⟩
  | .local _ .vmem, ⟨9, _⟩ => ⟨S8x14208, .bf16⟩
  | .local _ .vmem, ⟨10, _⟩ => ⟨S444x768, .f32⟩
  | .local _ .vmem, ⟨11, _⟩ => ⟨S444x768, .f32⟩
  | _, _ => ⟨S8x1x14208, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x14208 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S7104x768 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S444x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S444x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S8x1x14208 : Shape := ⟨3, ![8, 1, 14208]⟩
abbrev S6912x7104 : Shape := ⟨2, ![6912, 7104]⟩
abbrev S6912x444 : Shape := ⟨2, ![6912, 444]⟩
abbrev S6912x444x16 : Shape := ⟨3, ![6912, 444, 16]⟩
abbrev S_ : Shape := ⟨0, ![]⟩
abbrev S6912x444x1 : Shape := ⟨3, ![6912, 444, 1]⟩
abbrev S8x1x444x32 : Shape := ⟨4, ![8, 1, 444, 32]⟩
abbrev S8x1x444x16 : Shape := ⟨4, ![8, 1, 444, 16]⟩
abbrev S8x1x6912 : Shape := ⟨3, ![8, 1, 6912]⟩

abbrev nBuf : Space → Nat
  | .hbm => 33
  | .vmem => 0
  | .smem => 0
  | _ => 0

abbrev bufTy : (tb : Table) → Fin (tcTables nBuf tb) → BufTy
  | .hbm, ⟨0, _⟩ => ⟨S8x1x14208, .bf16⟩
  | .hbm, ⟨1, _⟩ => ⟨S6912x7104, .i8⟩
  | .hbm, ⟨2, _⟩ => ⟨S6912x444, .bf16⟩
  | .hbm, ⟨3, _⟩ => ⟨S6912x444, .bf16⟩
  | .hbm, ⟨4, _⟩ => ⟨S6912x444x16, .i8⟩
  | .hbm, ⟨5, _⟩ => ⟨S6912x444x16, .i32⟩
  | .hbm, ⟨6, _⟩ => ⟨S_, .i32⟩
  | .hbm, ⟨7, _⟩ => ⟨S6912x444x16, .i32⟩
  | .hbm, ⟨8, _⟩ => ⟨S6912x444x16, .i32⟩
  | .hbm, ⟨9, _⟩ => ⟨S6912x444x16, .bf16⟩
  | .hbm, ⟨10, _⟩ => ⟨S6912x444x1, .bf16⟩
  | .hbm, ⟨11, _⟩ => ⟨S6912x444x16, .bf16⟩
  | .hbm, ⟨12, _⟩ => ⟨S6912x444x16, .bf16⟩
  | .hbm, ⟨13, _⟩ => ⟨S6912x444x1, .bf16⟩
  | .hbm, ⟨14, _⟩ => ⟨S6912x444x16, .bf16⟩
  | .hbm, ⟨15, _⟩ => ⟨S6912x444x16, .bf16⟩
  | .hbm, ⟨16, _⟩ => ⟨S_, .i32⟩
  | .hbm, ⟨17, _⟩ => ⟨S6912x444x16, .i32⟩
  | .hbm, ⟨18, _⟩ => ⟨S6912x444x16, .i32⟩
  | .hbm, ⟨19, _⟩ => ⟨S6912x444x16, .bf16⟩
  | .hbm, ⟨20, _⟩ => ⟨S6912x444x1, .bf16⟩
  | .hbm, ⟨21, _⟩ => ⟨S6912x444x16, .bf16⟩
  | .hbm, ⟨22, _⟩ => ⟨S6912x444x16, .bf16⟩
  | .hbm, ⟨23, _⟩ => ⟨S6912x444x1, .bf16⟩
  | .hbm, ⟨24, _⟩ => ⟨S6912x444x16, .bf16⟩
  | .hbm, ⟨25, _⟩ => ⟨S6912x444x16, .bf16⟩
  | .hbm, ⟨26, _⟩ => ⟨S8x1x444x32, .bf16⟩
  | .hbm, ⟨27, _⟩ => ⟨S8x1x444x16, .bf16⟩
  | .hbm, ⟨28, _⟩ => ⟨S8x1x444x16, .bf16⟩
  | .hbm, ⟨29, _⟩ => ⟨S8x1x6912, .f32⟩
  | .hbm, ⟨30, _⟩ => ⟨S8x1x6912, .f32⟩
  | .hbm, ⟨31, _⟩ => ⟨S8x1x6912, .f32⟩
  | .hbm, ⟨32, _⟩ => ⟨S8x1x6912, .bf16⟩
  | _, _ => ⟨S8x1x14208, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩

abbrev nD : Nat := 1
abbrev τ : Topo := Topo.v7x

variable {F : FTy → Type} [FloatOps F]
-- ==== Proof.Staging.lean ====
module

public import proofs.«01_k».proof.Proof.Gen.KernelIdeal.Frame
public import proofs.«01_k».proof.Proof.Gen.KernelIdeal.Skeleton

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch -/

/-- The condition of the body's branch: the grid coordinate is zero. -/
abbrev cond0_0 (i : grid0.Coords) : Prop := (Scalar.cmpi .ne (Scalar.extui (Scalar.cmpi .eq (BitVec.ofNat 32 (i 0).val) 0#32)) 0#32) = 1#1
/-- The branch is taken at the first grid point only. -/
theorem hcond0_0 : ∀ t : Fin cfg0.N, cond0_0 (grid0.coords t) ↔ t.val % 9 = 0 :=
  (fun t => by
    have ht : t.val < 9 := Nat.lt_of_lt_of_eq t.isLt N_0
    have e0 : (grid0.coords t 0).val = t.val / 1 % 9 := Pipeline.Grid.coords_val t 0 (by decide) rfl
    simp only [cond0_0, e0]
    word_cmp
   : ∀ t : Fin grid0.N, cond0_0 (grid0.coords t) ↔ t.val % 9 = 0)

/-! ## The buffers the body is called with -/

/-- A staging buffer of the output window, through which the block's contents are stated. -/
abbrev VO0_4 : View sig .tc .vmem S8x768 .bf16 := (Memref.whole cc0_stg4_0 : Memref sig .tc .vmem S8x768 .bf16).view
/-- Each window's staging buffer at grid point `t`, and that it is a whole buffer. -/
abbrev ms0_0 (t : Fin cfg0.N) : Memref sig .tc .vmem S8x14208 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S7104x768 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S444x768 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S444x768 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x768 .bf16 := win0_4.stage (cfg0.slots t 4)
abbrev hs0_4 (t : Fin cfg0.N) : (ms0_4 t).IsWhole := hstage0_4 ((cfg0.slots t 4).cast nbuf0_4)
/-- The three scratch buffers: the reordered input, the scales and the minima. -/
abbrev scM0_0 : Memref sig .tc .vmem S8x14208 .bf16 := Memref.whole cc0_scratch0
abbrev scM0_1 : Memref sig .tc .vmem S444x768 .f32 := Memref.whole cc0_scratch1
abbrev scM0_2 : Memref sig .tc .vmem S444x768 .f32 := Memref.whole cc0_scratch2
/-- The reordered input's scratch, as a view. -/
abbrev VS0_0 : View sig .tc .vmem S8x14208 .bf16 := scM0_0.view

/-- What is held of the scratch buffers before the first point: each of them, at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Body

end
-- ==== Proof.RunA.lean ====
module

public import proofs.«01_k».proof.Proof.Staging

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 5904000 in
/-- The body at the first grid point, where the branch is taken. From staging buffers holding the four input blocks
    and scratch at anything, it runs to its end with the inputs as they were and these stores made: `L4` in the output
    block, `LS0` in the reordered input, `LT1` and `LT2` in the scales' and minima's scratch. -/
noncomputable def kernelRun0_A (c : Dev nD) (i : grid0.Coords) (arg1 : Memref sig .tc .vmem S8x14208 .bf16) (harg1 : arg1.IsWhole) (arg2 : Memref sig .tc .vmem S7104x768 .i8) (harg2 : arg2.IsWhole) (arg3 : Memref sig .tc .vmem S444x768 .bf16) (harg3 : arg3.IsWhole) (arg4 : Memref sig .tc .vmem S444x768 .bf16) (harg4 : arg4.IsWhole) (arg5 : Memref sig .tc .vmem S8x768 .bf16) (harg5 : arg5.IsWhole) (arg6 : Memref sig .tc .vmem S8x14208 .bf16) (harg6 : arg6.IsWhole) (arg7 : Memref sig .tc .vmem S444x768 .f32) (harg7 : arg7.IsWhole) (arg8 : Memref sig .tc .vmem S444x768 .f32) (harg8 : arg8.IsWhole) (hc0 : cond0_0 i)
    (x0 : Vec F S8x14208 .bf16) (x1 : Vec F S7104x768 .i8) (x2 : Vec F S444x768 .bf16) (x3 : Vec F S444x768 .bf16) :
    Σ' (L4 : List (View.Piece (Elt F) S8x768 .bf16)), Σ' (LS0 : List (View.Piece (Elt F) S8x14208 .bf16)), Σ' (LT1 : List (View.Piece (Elt F) S444x768 .f32)), { LT2 : List (View.Piece (Elt F) S444x768 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LT1) ∗ (∃ f, arg8.view.loc (c : Thread nD τ) ↦[arg8.view.set]{fullShare} arg8.view.writes (Elt F) f LT2)) -∗ K ⟨⟩))
          ⊢ wp frame (wpE (defs₀ (F := F)) Variants.none c none) E (cc0__body i arg1 harg1 arg2 harg2 arg3 harg3 arg4 harg4 arg5 harg5 arg6 harg6 arg7 harg7 arg8 harg8) K } := by
  refine ⟨?_, ?_, ?_, ?_, fun E K => ?run⟩
  case run =>
    simp only [cc0__body_eq_skeleton]; unfold cc0__body_skel
    simp only [k0_part114_eq_skeleton, k0_part10_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part115_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [HS0]; · iexists _; iexact HS0
    isplitl [HS1]; · iexists _; iexact HS1
    iexists _; iexact HS2

end Cert.KernelIdeal.Body

end
-- ==== Proof.RunB.lean ====
module

public import proofs.«01_k».proof.Proof.Staging

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 5156000 in
/-- The body at a later grid point, where the branch is not taken. From staging buffers holding the four input blocks
    and the reordered input's scratch at `xs0`, it runs to its end with all of these as they were and these stores made:
    `L4` in the output block, `LT1` and `LT2` in the scales' and minima's scratch; `LS0` is empty. -/
noncomputable def kernelRun0_B (c : Dev nD) (i : grid0.Coords) (arg1 : Memref sig .tc .vmem S8x14208 .bf16) (harg1 : arg1.IsWhole) (arg2 : Memref sig .tc .vmem S7104x768 .i8) (harg2 : arg2.IsWhole) (arg3 : Memref sig .tc .vmem S444x768 .bf16) (harg3 : arg3.IsWhole) (arg4 : Memref sig .tc .vmem S444x768 .bf16) (harg4 : arg4.IsWhole) (arg5 : Memref sig .tc .vmem S8x768 .bf16) (harg5 : arg5.IsWhole) (arg6 : Memref sig .tc .vmem S8x14208 .bf16) (harg6 : arg6.IsWhole) (arg7 : Memref sig .tc .vmem S444x768 .f32) (harg7 : arg7.IsWhole) (arg8 : Memref sig .tc .vmem S444x768 .f32) (harg8 : arg8.IsWhole) (hc0 : ¬cond0_0 i)
    (x0 : Vec F S8x14208 .bf16) (x1 : Vec F S7104x768 .i8) (x2 : Vec F S444x768 .bf16) (x3 : Vec F S444x768 .bf16) (xs0 : Vec F S8x14208 .bf16) :
    Σ' (L4 : List (View.Piece (Elt F) S8x768 .bf16)), Σ' (LS0 : List (View.Piece (Elt F) S8x14208 .bf16)), Σ' (LT1 : List (View.Piece (Elt F) S444x768 .f32)), { LT2 : List (View.Piece (Elt F) S444x768 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs0 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xs0 ∗ (∃ f, arg7.view.loc (c : Thread nD τ) ↦[arg7.view.set]{fullShare} arg7.view.writes (Elt F) f LT1) ∗ (∃ f, arg8.view.loc (c : Thread nD τ) ↦[arg8.view.set]{fullShare} arg8.view.writes (Elt F) f LT2)) -∗ K ⟨⟩))
          ⊢ wp frame (wpE (defs₀ (F := F)) Variants.none c none) E (cc0__body i arg1 harg1 arg2 harg2 arg3 harg3 arg4 harg4 arg5 harg5 arg6 harg6 arg7 harg7 arg8 harg8) K } := by
  refine ⟨?_, [], ?_, ?_, fun E K => ?run⟩
  case run =>
    simp only [cc0__body_eq_skeleton]; unfold cc0__body_skel
    simp only [k0_part114_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part115_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg6.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [HS0]
    · iexists _; isplitr; · ipureintro; exact harg6.read_unread _
      iexact HS0
    isplitl [HS1]; · iexists _; iexact HS1
    iexists _; iexact HS2

end Cert.KernelIdeal.Body

end
-- ==== Proof.Frame.lean ====
module

public import proofs.«01_k».proof.Proof.RunA
public import proofs.«01_k».proof.Proof.RunB
public import Idealize.ShloMosaic.Lib.Claim

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first point's store covers the output block. -/
theorem cover0_A_4 (c : Dev nD) (i : grid0.Coords) (arg1 : Memref sig .tc .vmem S8x14208 .bf16) (harg1 : arg1.IsWhole) (arg2 : Memref sig .tc .vmem S7104x768 .i8) (harg2 : arg2.IsWhole) (arg3 : Memref sig .tc .vmem S444x768 .bf16) (harg3 : arg3.IsWhole) (arg4 : Memref sig .tc .vmem S444x768 .bf16) (harg4 : arg4.IsWhole) (arg5 : Memref sig .tc .vmem S8x768 .bf16) (harg5 : arg5.IsWhole) (arg6 : Memref sig .tc .vmem S8x14208 .bf16) (harg6 : arg6.IsWhole) (arg7 : Memref sig .tc .vmem S444x768 .f32) (harg7 : arg7.IsWhole) (arg8 : Memref sig .tc .vmem S444x768 .f32) (harg8 : arg8.IsWhole) (hc0 : cond0_0 i)
    (x0 : Vec F S8x14208 .bf16) (x1 : Vec F S7104x768 .i8) (x2 : Vec F S444x768 .bf16) (x3 : Vec F S444x768 .bf16) (y : S8x768.Idx) :
    ∃ pc ∈ (kernelRun0_A c i arg1 harg1 arg2 harg2 arg3 harg3 arg4 harg4 arg5 harg5 arg6 harg6 arg7 harg7 arg8 harg8 hc0 x0 x1 x2 x3).1, y ∈ pc.1.set :=
  View.cover_of_tiledL (kernelRun0_A c i arg1 harg1 arg2 harg2 arg3 harg3 arg4 harg4 arg5 harg5 arg6 harg6 arg7 harg7 arg8 harg8 hc0 x0 x1 x2 x3).1 S8x768.size (by sl_kernel_rfl) y

/-- What the first point leaves in the output block. -/
def out0_A_4 (c : Dev nD) (i : grid0.Coords) (arg1 : Memref sig .tc .vmem S8x14208 .bf16) (harg1 : arg1.IsWhole) (arg2 : Memref sig .tc .vmem S7104x768 .i8) (harg2 : arg2.IsWhole) (arg3 : Memref sig .tc .vmem S444x768 .bf16) (harg3 : arg3.IsWhole) (arg4 : Memref sig .tc .vmem S444x768 .bf16) (harg4 : arg4.IsWhole) (arg5 : Memref sig .tc .vmem S8x768 .bf16) (harg5 : arg5.IsWhole) (arg6 : Memref sig .tc .vmem S8x14208 .bf16) (harg6 : arg6.IsWhole) (arg7 : Memref sig .tc .vmem S444x768 .f32) (harg7 : arg7.IsWhole) (arg8 : Memref sig .tc .vmem S444x768 .f32) (harg8 : arg8.IsWhole) (hc0 : cond0_0 i)
    (x0 : Vec F S8x14208 .bf16) (x1 : Vec F S7104x768 .i8) (x2 : Vec F S444x768 .bf16) (x3 : Vec F S444x768 .bf16) : Vec F S8x768 .bf16 :=
  VO0_4.read (Elt F) (VO0_4.writes (Elt F) VO0_4.junk (kernelRun0_A c i arg1 harg1 arg2 harg2 arg3 harg3 arg4 harg4 arg5 harg5 arg6 harg6 arg7 harg7 arg8 harg8 hc0 x0 x1 x2 x3).1)

/-- The first point's 56 stores cover the reordered input. -/
theorem scover0_A_0 (c : Dev nD) (i : grid0.Coords) (arg1 : Memref sig .tc .vmem S8x14208 .bf16) (harg1 : arg1.IsWhole) (arg2 : Memref sig .tc .vmem S7104x768 .i8) (harg2 : arg2.IsWhole) (arg3 : Memref sig .tc .vmem S444x768 .bf16) (harg3 : arg3.IsWhole) (arg4 : Memref sig .tc .vmem S444x768 .bf16) (harg4 : arg4.IsWhole) (arg5 : Memref sig .tc .vmem S8x768 .bf16) (harg5 : arg5.IsWhole) (arg6 : Memref sig .tc .vmem S8x14208 .bf16) (harg6 : arg6.IsWhole) (arg7 : Memref sig .tc .vmem S444x768 .f32) (harg7 : arg7.IsWhole) (arg8 : Memref sig .tc .vmem S444x768 .f32) (harg8 : arg8.IsWhole) (hc0 : cond0_0 i)
    (x0 : Vec F S8x14208 .bf16) (x1 : Vec F S7104x768 .i8) (x2 : Vec F S444x768 .bf16) (x3 : Vec F S444x768 .bf16) (y : S8x14208.Idx) :
    ∃ pc ∈ (kernelRun0_A c i arg1 harg1 arg2 harg2 arg3 harg3 arg4 harg4 arg5 harg5 arg6 harg6 arg7 harg7 arg8 harg8 hc0 x0 x1 x2 x3).2.1, y ∈ pc.1.set :=
  View.cover_of_tiledBy (kernelRun0_A c i arg1 harg1 arg2 harg2 arg3 harg3 arg4 harg4 arg5 harg5 arg6 harg6 arg7 harg7 arg8 harg8 hc0 x0 x1 x2 x3).2.1 ![8, 128] (by sl_kernel_rfl) y

/-- What the first point leaves in the reordered input's scratch. -/
def sout0_A_0 (c : Dev nD) (i : grid0.Coords) (arg1 : Memref sig .tc .vmem S8x14208 .bf16) (harg1 : arg1.IsWhole) (arg2 : Memref sig .tc .vmem S7104x768 .i8) (harg2 : arg2.IsWhole) (arg3 : Memref sig .tc .vmem S444x768 .bf16) (harg3 : arg3.IsWhole) (arg4 : Memref sig .tc .vmem S444x768 .bf16) (harg4 : arg4.IsWhole) (arg5 : Memref sig .tc .vmem S8x768 .bf16) (harg5 : arg5.IsWhole) (arg6 : Memref sig .tc .vmem S8x14208 .bf16) (harg6 : arg6.IsWhole) (arg7 : Memref sig .tc .vmem S444x768 .f32) (harg7 : arg7.IsWhole) (arg8 : Memref sig .tc .vmem S444x768 .f32) (harg8 : arg8.IsWhole) (hc0 : cond0_0 i)
    (x0 : Vec F S8x14208 .bf16) (x1 : Vec F S7104x768 .i8) (x2 : Vec F S444x768 .bf16) (x3 : Vec F S444x768 .bf16) : Vec F S8x14208 .bf16 :=
  VS0_0.read (Elt F) (VS0_0.writes (Elt F) VS0_0.junk (kernelRun0_A c i arg1 harg1 arg2 harg2 arg3 harg3 arg4 harg4 arg5 harg5 arg6 harg6 arg7 harg7 arg8 harg8 hc0 x0 x1 x2 x3).2.1)

/-- A later point's store covers the output block. -/
theorem cover0_B_4 (c : Dev nD) (i : grid0.Coords) (arg1 : Memref sig .tc .vmem S8x14208 .bf16) (harg1 : arg1.IsWhole) (arg2 : Memref sig .tc .vmem S7104x768 .i8) (harg2 : arg2.IsWhole) (arg3 : Memref sig .tc .vmem S444x768 .bf16) (harg3 : arg3.IsWhole) (arg4 : Memref sig .tc .vmem S444x768 .bf16) (harg4 : arg4.IsWhole) (arg5 : Memref sig .tc .vmem S8x768 .bf16) (harg5 : arg5.IsWhole) (arg6 : Memref sig .tc .vmem S8x14208 .bf16) (harg6 : arg6.IsWhole) (arg7 : Memref sig .tc .vmem S444x768 .f32) (harg7 : arg7.IsWhole) (arg8 : Memref sig .tc .vmem S444x768 .f32) (harg8 : arg8.IsWhole) (hc0 : ¬cond0_0 i)
    (x0 : Vec F S8x14208 .bf16) (x1 : Vec F S7104x768 .i8) (x2 : Vec F S444x768 .bf16) (x3 : Vec F S444x768 .bf16) (xs0 : Vec F S8x14208 .bf16) (y : S8x768.Idx) :
    ∃ pc ∈ (kernelRun0_B c i arg1 harg1 arg2 harg2 arg3 harg3 arg4 harg4 arg5 harg5 arg6 harg6 arg7 harg7 arg8 harg8 hc0 x0 x1 x2 x3 xs0).1, y ∈ pc.1.set :=
  View.cover_of_tiledL (kernelRun0_B c i arg1 harg1 arg2 harg2 arg3 harg3 arg4 harg4 arg5 harg5 arg6 harg6 arg7 harg7 arg8 harg8 hc0 x0 x1 x2 x3 xs0).1 S8x768.size (by sl_kernel_rfl) y

/-- What a later point leaves in the output block. -/
def out0_B_4 (c : Dev nD) (i : grid0.Coords) (arg1 : Memref sig .tc .vmem S8x14208 .bf16) (harg1 : arg1.IsWhole) (arg2 : Memref sig .tc .vmem S7104x768 .i8) (harg2 : arg2.IsWhole) (arg3 : Memref sig .tc .vmem S444x768 .bf16) (harg3 : arg3.IsWhole) (arg4 : Memref sig .tc .vmem S444x768 .bf16) (harg4 : arg4.IsWhole) (arg5 : Memref sig .tc .vmem S8x768 .bf16) (harg5 : arg5.IsWhole) (arg6 : Memref sig .tc .vmem S8x14208 .bf16) (harg6 : arg6.IsWhole) (arg7 : Memref sig .tc .vmem S444x768 .f32) (harg7 : arg7.IsWhole) (arg8 : Memref sig .tc .vmem S444x768 .f32) (harg8 : arg8.IsWhole) (hc0 : ¬cond0_0 i)
    (x0 : Vec F S8x14208 .bf16) (x1 : Vec F S7104x768 .i8) (x2 : Vec F S444x768 .bf16) (x3 : Vec F S444x768 .bf16) (xs0 : Vec F S8x14208 .bf16) : Vec F S8x768 .bf16 :=
  VO0_4.read (Elt F) (VO0_4.writes (Elt F) VO0_4.junk (kernelRun0_B c i arg1 harg1 arg2 harg2 arg3 harg3 arg4 harg4 arg5 harg5 arg6 harg6 arg7 harg7 arg8 harg8 hc0 x0 x1 x2 x3 xs0).1)

/-- A later point leaves the reordered input alone. -/
def sout0_B_0 (c : Dev nD) (i : grid0.Coords) (arg1 : Memref sig .tc .vmem S8x14208 .bf16) (harg1 : arg1.IsWhole) (arg2 : Memref sig .tc .vmem S7104x768 .i8) (harg2 : arg2.IsWhole) (arg3 : Memref sig .tc .vmem S444x768 .bf16) (harg3 : arg3.IsWhole) (arg4 : Memref sig .tc .vmem S444x768 .bf16) (harg4 : arg4.IsWhole) (arg5 : Memref sig .tc .vmem S8x768 .bf16) (harg5 : arg5.IsWhole) (arg6 : Memref sig .tc .vmem S8x14208 .bf16) (harg6 : arg6.IsWhole) (arg7 : Memref sig .tc .vmem S444x768 .f32) (harg7 : arg7.IsWhole) (arg8 : Memref sig .tc .vmem S444x768 .f32) (harg8 : arg8.IsWhole) (hc0 : ¬cond0_0 i)
    (x0 : Vec F S8x14208 .bf16) (x1 : Vec F S7104x768 .i8) (x2 : Vec F S444x768 .bf16) (x3 : Vec F S444x768 .bf16) (xs0 : Vec F S8x14208 .bf16) : Vec F S8x14208 .bf16 := xs0

/-! ## What the outputs hold after each point -/

variable (m : (ℓ : Loc nD τ sig) → Buf (Elt F) ℓ) (ρ : Dev nD → PrngReg)

/-- The output block and the reordered input after point `n`, by recursion on the points. -/
def outsAt0 (c : Dev nD) : (n : ℕ) → n < cfg0.N → Vec F S8x768 .bf16 × Vec F S8x14208 .bf16
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩))
  | n + 1, hn =>
    if h0 : (n + 1) % 9 = 0 then
      (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩))
    else
      (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)

/-- `outsAt0` at the first point. -/
theorem outsAt0_A (c : Dev nD) (t : Fin cfg0.N) (h0 : t.val % 9 = 0) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (iblk m c 0 t) (iblk m c 1 t) (iblk m c 2 t) (iblk m c 3 t)) := by
  obtain ⟨n, hn⟩ := t
  cases n with
  | zero => exact rfl
  | succ n => exact (dif_pos h0).trans rfl

/-- `outsAt0` at a later point, over what the point before left. -/
theorem outsAt0_B (c : Dev nD) (t : Fin cfg0.N) (h0 : ¬t.val % 9 = 0) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- What is held of the scratch buffers before point `n`: at first each at some contents, afterwards the reordered input
    at what the point before left and the other two at some contents. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2) ∗ (∃ d, owns (c : Thread nD τ) scM0_1 fullShare d) ∗ (∃ d, owns (c : Thread nD τ) scM0_2 fullShare d)) ∗ (∃ r, prngReg c r))

theorem PhiS_zero (c : Dev nD) (n : ℕ) (h : n ≤ cfg0.N) (hz : n = 0) : PhiS m c n h = Pipeline.ΦA spec0 c := by
  subst hz; rfl

/-- The same after point `n`. -/
theorem PhiS_succ (c : Dev nD) (n : ℕ) (hn : n < cfg0.N) :
    PhiS m c (n + 1) hn = iprop(iprop(owns (c : Thread nD τ) scM0_0 fullShare ((outsAt0 m c n hn).2) ∗ (∃ d, owns (c : Thread nD τ) scM0_1 fullShare d) ∗ (∃ d, owns (c : Thread nD τ) scM0_2 fullShare d)) ∗ (∃ r, prngReg c r)) := rfl

/-- The same before a point that is not the first. -/
theorem PhiS_pos (c : Dev nD) (n : ℕ) (h : n ≤ cfg0.N) (hz : n ≠ 0) :
    PhiS m c n h = iprop(iprop(owns (c : Thread nD τ) scM0_0 fullShare ((outsAt0 m c (n - 1) (by omega)).2) ∗ (∃ d, owns (c : Thread nD τ) scM0_1 fullShare d) ∗ (∃ d, owns (c : Thread nD τ) scM0_2 fullShare d)) ∗ (∃ r, prngReg c r)) := by
  cases n with
  | zero => exact absurd rfl hz
  | succ n => rfl

/-! ## The pipeline -/

/-- What the proof says of the pipeline: the arrays at their contents when the call starts; after point `t` each input's
    buffer at its block and the output's at `outsAt0`; between points `PhiS` of the scratch. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q _ := fullShare
  owed _ := 0

/-- The arrays are those the call starts from. -/
theorem A_eq (c : Dev nD) (w : Fin cfg0.W) : (dats m 0 c).A w = V m c (Pipeline.arrRef spec0 w) := by
  dsimp only [dats]

/-- What is held before point `t`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves in each window's buffer. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

/-- Each input's buffer holds its block when the body starts. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body at any point -/

/-- What the body starts from at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it ends with. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 6400000 in
/-- The body at any point, by the case the point is in. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3, after0_4]
  rw [show (dats m 0 c).Φ t.succ = PhiS m c (t.val + 1) t.isLt from rfl, PhiS_succ]
  have hN : t.val < 9 := lt_of_lt_of_eq t.isLt (show cfg0.N = 9 from N_0)
  by_cases h0 : t.val % 9 = 0
  · by_cases hz : t.val = 0
    · rw [PhiS_castSucc m c t, PhiS_zero m c _ _ hz, PhiA0_eq]
      rw [outsAt0_A m c t h0]
      unfold out0_A_4 sout0_A_0; (try dsimp only)
      iintro ⟨⟨⟨HS0, HS1, HS2⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ _ _ _ _ ((hcond0_0 t).mpr h0) (iblk m c 0 t) (iblk m c 1 t) (iblk m c 2 t) (iblk m c 3 t)).2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      iintro ⟨H0, H1, H2, H3, ⟨%e4, H4⟩, ⟨%es0, HS0⟩, ⟨%fT1, HS1⟩, ⟨%fT2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _)
          isplitl [HS1]
          · iexists _; unfold owns; iexists _; isplitr
            swap; · iexact HS1
            ipureintro; rfl
          iexists _; unfold owns; iexists _; isplitr
          swap; · iexact HS2
          ipureintro; rfl
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_A_4 c _ _ _ _ _ _ _ _ _ _ _ _ _ _ _ _ _ _ _ _ _ _)
    · exfalso; have hN : t.val < 9 := lt_of_lt_of_eq t.isLt (show cfg0.N = 9 from N_0); omega
  · by_cases hz : t.val = 0
    · exfalso; have hN : t.val < 9 := lt_of_lt_of_eq t.isLt (show cfg0.N = 9 from N_0); omega
    · rw [PhiS_castSucc m c t, PhiS_pos m c _ _ hz]
      rw [outsAt0_B m c t h0]
      unfold out0_B_4 sout0_B_0; (try dsimp only)
      iintro ⟨⟨⟨HS0, HS1, HS2⟩, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ _ _ _ _ (fun h => h0 ((hcond0_0 t).mp h)) (iblk m c 0 t) (iblk m c 1 t) (iblk m c 2 t) (iblk m c 3 t) _).2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      iintro ⟨H0, H1, H2, H3, ⟨%e4, H4⟩, HS0, ⟨%fT1, HS1⟩, ⟨%fT2, HS2⟩⟩
      isplitl [HS0 HS1 HS2 Hg]
      · isplitl [HS0 HS1 HS2]
        · isplitl [HS0]
          · iexact HS0
          isplitl [HS1]
          · iexists _; unfold owns; iexists _; isplitr
            swap; · iexact HS1
            ipureintro; rfl
          iexists _; unfold owns; iexists _; isplitr
          swap; · iexact HS2
          ipureintro; rfl
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_B_4 c _ _ _ _ _ _ _ _ _ _ _ _ _ _ _ _ _ _ _ _ _ _ _)

/-- The body the call names at point `t` is `bodyAt0`. -/
theorem defs₀_row (t : Fin cfg0.N) :
    defs₀ (F := F) .tc cfg0.body (cfg0.bodyArgs t (cfg0.slots t)) = bodyAt0 t := by
  unfold defs₀; rw [Defs.onTc_tc]

/-- The body's statement at every point, in the form the pipeline asks for. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the call hands over is what is held before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the reordered input's contents may be forgotten again. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexact HS1
    iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 9 := N_0; omega)

/-! ## The run and the frame -/

set_option backward.isDefEq.respectTransparency.types false in
/-- The run: every array as the pipeline leaves it, and every semaphore counter at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The run without the counters. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: the program runs, its arguments end unchanged and every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Body

end
-- ==== Proof.Printed.lean ====
module

public import proofs.«01_k».proof.Proof.Frame
public import proofs.«01_k».proof.Proof.Gen.Kernel

@[expose] public section

noncomputable section

/-! # The program as printed

The program as printed and the program that is read over the extended reals are one text in two namespaces.
So the run of the second, which `Frame` proves at any reading of the floats, is a run of the first. -/

namespace Cert.Kernel.Body

open Idealize.ShloMosaic Idealize.ShloMosaic.TcCoe Idealize.SL.Sem

variable {F : FTy → Type} [FloatOps F]

/-- The two programs have the same table of kernel bodies. -/
theorem defs_eq : Cert.Kernel.defs (F := F) = Cert.KernelIdeal.defs (F := F) := by sl_kernel_rfl

/-- The two programs have the same entry function. -/
theorem main_eq : Cert.Kernel.main (F := F) = Cert.KernelIdeal.main (F := F) := by sl_kernel_rfl

variable (m : (ℓ : Loc nD τ sig) → Buf (Elt F) ℓ) (ρ : Dev nD → PrngReg)

/-- The frame: the program runs, its arguments end unchanged and every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  rw [defs_eq, main_eq]
  exact Cert.KernelIdeal.Body.frame m ρ

end Cert.Kernel.Body

end
-- ==== Proof.Spec.lean ====
module

public import proofs.«01_k».proof.Proof.Staging

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What one grid point computes, from what it loads

The 14208 input columns are cut into 55 tiles of 256 and one of 128. Within a tile the unpacked codes stand
in the order (low nibble of packed row 0, high nibble of packed row 0, low nibble of packed row 1, …), 32 rows to
a quantization group. -/

/-- The codes of a full tile, from its 128 packed rows: row `2 r` the low nibble of packed row `r`, row `2 r + 1`
    its high nibble. -/
def codes (p : Vec F S128x768 .i8) : FVec F S256x768 .bf16 :=
  sitofp .bf16 (bitcast S256x768 16
    (ori (andi (extui 32 (shapeCast S128x768 p shapeCasts_S128x768_S128x768) natLt_8_32) (broadcast S128x768 15#32))
      (shli (shrsi (extui 32 (shapeCast S128x768 p shapeCasts_S128x768_S128x768) natLt_8_32) (broadcast S128x768 4#32))
        (broadcast S128x768 16#32))) bitcasts_S128x768_w32_S256x768_w16)

/-- The codes of the last tile, from its 64 packed rows. -/
def codesLast (p : Vec F S64x768 .i8) : FVec F S128x768 .bf16 :=
  sitofp .bf16 (bitcast S128x768 16
    (ori (andi (extui 32 (shapeCast S64x768 p shapeCasts_S64x768_S64x768) natLt_8_32) (broadcast S64x768 15#32))
      (shli (shrsi (extui 32 (shapeCast S64x768 p shapeCasts_S64x768_S64x768) natLt_8_32) (broadcast S64x768 4#32))
        (broadcast S64x768 16#32))) bitcasts_S64x768_w32_S128x768_w16)

/-- A 32-row window at row `o` lies inside `R` rows. -/
theorem slices32 {R o : ℕ} (h : o + 32 ≤ R) : (⟨2, ![R, 768]⟩ : Shape).Slices ![o, 0] S32x768 := by
  refine ⟨rfl, fun a => ?_⟩
  fin_cases a <;> simp <;> omega

/-- The weights of group `g`: the 32 codes at row `o` of the tile, times the group's scale row, plus its minimum row. -/
def part {R : ℕ} (c : FVec F ⟨2, ![R, 768]⟩ .bf16) (sr mr : (g : ℕ) → g < 444 → Vec F S32x768 .f32) (g : ℕ) (hg : g < 444)
    (o : ℕ) (ho : o + 32 ≤ R) : FVec F S32x768 .bf16 :=
  addf (mulf (extractStridedSlice S32x768 ![o, 0] c (slices32 ho)) (truncf .bf16 (sr g hg) bitsLt_bf16_f32))
    (truncf .bf16 (mr g hg) bitsLt_bf16_f32)

/-- The weights of full tile `T`: its eight groups, one under the other. -/
def tileW (c : FVec F S256x768 .bf16) (sr mr : (g : ℕ) → g < 444 → Vec F S32x768 .f32) (T : ℕ) (hT : T < 55) :
    FVec F S256x768 .bf16 :=
  concatenate S256x768 0 (List.ofFn fun q : Fin 8 => (⟨S32x768, part c sr mr (8 * T + q.val) (by omega) (32 * q.val) (by omega)⟩ :
      (s : Shape) × (s.Idx → F .bf16)))
    concatenates_S32x768_S32x768_S32x768_S32x768_S32x768_S32x768_S32x768_S32x768_S256x768_d0

/-- The weights of the last tile: its four groups. -/
def tileWLast (c : FVec F S128x768 .bf16) (sr mr : (g : ℕ) → g < 444 → Vec F S32x768 .f32) : FVec F S128x768 .bf16 :=
  concatenate S128x768 0 (List.ofFn fun q : Fin 4 => (⟨S32x768, part c sr mr (440 + q.val) (by omega) (32 * q.val) (by omega)⟩ :
      (s : Shape) × (s.Idx → F .bf16)))
    concatenates_S32x768_S32x768_S32x768_S32x768_S128x768_d0

/-- The sum of the first `n` full tiles' products. -/
def acc (xt : (T : ℕ) → T < 55 → Vec F S8x256 .bf16) (wt : (T : ℕ) → T < 55 → Vec F S128x768 .i8)
    (sr mr : (g : ℕ) → g < 444 → Vec F S32x768 .f32) (n : ℕ) : n ≤ 55 → FVec F S8x768 .f32 :=
  Nat.rec (motive := fun n => n ≤ 55 → FVec F S8x768 .f32) (fun _ => broadcast S8x768 (Scalar.ofBits .f32 0x00000000#32))
    (fun T ih h => addf (ih (Nat.le_of_succ_le h))
      (matmul dot_S8x256_S256x768_S8x768_1_0_0_1_n_n none (xt T h) (tileW (codes (wt T h)) sr mr T h)
        (constant S8x768 .f32 0x00000000#32))) n

/-- What the point stores: the 55 full tiles' products and the last tile's, summed and rounded. -/
def outSpec (xt : (T : ℕ) → T < 55 → Vec F S8x256 .bf16) (xl : Vec F S8x128 .bf16) (wt : (T : ℕ) → T < 55 → Vec F S128x768 .i8)
    (wl : Vec F S64x768 .i8) (sr mr : (g : ℕ) → g < 444 → Vec F S32x768 .f32) : FVec F S8x768 .bf16 :=
  truncf .bf16 (addf (acc xt wt sr mr 55 le_rfl)
    (matmul dot_S8x128_S128x768_S8x768_1_0_0_1_n_n none xl (tileWLast (codesLast wl) sr mr)
      (constant S8x768 .f32 0x00000000#32))) bitsLt_bf16_f32

/-! ## The reordered input

At the first point the input's columns are reordered to the codes' order, by a product with a zero-one matrix, and
kept for every later point. -/

/-- The input, padded with zero columns to 56 tiles of 256. -/
def xpad (x : Vec F S8x14208 .bf16) : FVec F S8x14336 .f32 :=
  concatenate S8x14336 1 [⟨S8x14208, extf .f32 (shapeCast S8x14208 x shapeCasts_S8x14208_S8x14208) bitsLt_bf16_f32⟩,
    ⟨S8x128, broadcast S8x128 (Scalar.ofBits .f32 0x00000000#32)⟩] concatenates_S8x14208_S8x128_S8x14336_d1

/-- The 256 columns from `256 T` lie inside the padded input. -/
theorem slicesPad {T : ℕ} (h : T < 56) : S8x14336.Slices ![0, 256 * T] S8x256 := by
  refine ⟨rfl, fun a => ?_⟩
  fin_cases a <;> simp <;> omega

/-- The padded input's 56 column tiles, one under the other. -/
def xstack (x : Vec F S8x14208 .bf16) : FVec F S448x256 .f32 :=
  concatenate S448x256 0 (List.ofFn fun q : Fin 56 => (⟨S8x256, extractStridedSlice S8x256 ![0, 256 * q.val] (xpad x) (slicesPad q.isLt)⟩ :
      (s : Shape) × (s.Idx → F .f32)))
    concatenates_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S448x256_d0

/-- Where column `r` of a reordered tile comes from, as the body computes it. -/
def srcWord : IVec S256x256 32 :=
  ori (ori (andi (iota .tc S256x256 32 [1] iota_S256x256_d1_w32) (broadcast S256x256 4294967264#32))
      (shli (andi (iota .tc S256x256 32 [1] iota_S256x256_d1_w32) (broadcast S256x256 1#32)) (broadcast S256x256 4#32)))
    (andi (shrsi (iota .tc S256x256 32 [1] iota_S256x256_d1_w32) (broadcast S256x256 1#32)) (broadcast S256x256 15#32))

/-- The zero-one matrix of the reordering. -/
def permMat : FVec F S256x256 .bf16 :=
  truncf .bf16 (select (cmpi .eq (iota .tc S256x256 32 [0] iota_S256x256_d0_w32) srcWord)
    (broadcast S256x256 (Scalar.ofBits .f32 0x3F800000#32)) (broadcast S256x256 (Scalar.ofBits .f32 0x00000000#32))) bitsLt_bf16_f32

/-- The reordered tiles, one under the other. -/
def xdot (x : Vec F S8x14208 .bf16) : FVec F S448x256 .f32 :=
  matmul dot_S448x256_S256x256_S448x256_1_0_0_1_n_n none (truncf .bf16 (xstack x) bitsLt_bf16_f32) permMat
    (constant S448x256 .f32 0x00000000#32)

theorem slicesDot {T : ℕ} (h : T < 56) : S448x256.Slices ![8 * T, 0] S8x256 := by
  refine ⟨rfl, fun a => ?_⟩
  fin_cases a <;> simp <;> omega

/-- Reordered tile `T`. -/
def permTile (x : Vec F S8x14208 .bf16) (T : ℕ) (h : T < 55) : FVec F S8x256 .bf16 :=
  shapeCast S8x256 (truncf .bf16 (extractStridedSlice S8x256 ![8 * T, 0] (xdot x) (slicesDot (Nat.lt_succ_of_lt h))) bitsLt_bf16_f32)
    shapeCasts_S8x256_S8x256

/-- The last reordered tile, of 128 columns. -/
def permLast (x : Vec F S8x14208 .bf16) : FVec F S8x128 .bf16 :=
  shapeCast S8x128 (truncf .bf16 (extractStridedSlice S8x128 ![440, 0] (xdot x) slices_S448x256_o440_0_S8x128) bitsLt_bf16_f32)
    shapeCasts_S8x128_S8x128

/-! ## Where the body loads and stores -/

theorem inbX (T : ℕ) (h : T < 55) : ∀ a, (![0, 256 * T] : Fin 2 → ℕ) a + S8x256.size a ≤ S8x14208.size a := by
  intro a; fin_cases a <;> simp; omega
theorem inbW (T : ℕ) (h : T < 55) : ∀ a, (![128 * T, 0] : Fin 2 → ℕ) a + S128x768.size a ≤ S7104x768.size a := by
  intro a; fin_cases a <;> simp; omega
theorem inbG (g : ℕ) (h : g < 444) : ∀ a, S32x768.size a = 0 ∨ (![g, 0] : Fin 2 → ℕ) a + (![0, 1] : Fin 2 → ℕ) a * (S32x768.size a - 1) < S444x768.size a := by
  intro a; fin_cases a <;> simp; omega

/-- Column tile `T` of the input's shape. -/
abbrev rX (T : ℕ) (h : T < 55) : Rect S8x14208 := Rect.unit ![0, 256 * T] S8x256.size (inbX T h)
/-- Its last column tile. -/
abbrev rXl : Rect S8x14208 := Rect.unit ![0, 14080] S8x128.size inb_S8x14208_S8x128_0_14080
/-- Row tile `T` of the packed weights. -/
abbrev rW (T : ℕ) (h : T < 55) : Rect S7104x768 := Rect.unit ![128 * T, 0] S128x768.size (inbW T h)
/-- Their last row tile. -/
abbrev rWl : Rect S7104x768 := Rect.unit ![7040, 0] S64x768.size inb_S7104x768_S64x768_7040_0
/-- Row `g` of the scales or minima, read 32 times over. -/
abbrev rG (g : ℕ) (h : g < 444) : LoadRect S444x768 := ⟨![g, 0], S32x768.size, ![0, 1], inbG g h⟩
/-- All of the scales or minima. -/
abbrev rS : Rect S444x768 := Rect.unit ![0, 0] S444x768.size inb_S444x768_S444x768_0_0

/-- The stores of the first `n` reordered tiles, last first. -/
def permPieces (x : Vec F S8x14208 .bf16) (n : ℕ) : n ≤ 55 → List (View.Piece (Elt F) S8x14208 .bf16) :=
  Nat.rec (motive := fun n => n ≤ 55 → List (View.Piece (Elt F) S8x14208 .bf16)) (fun _ => [])
    (fun T ih h => ⟨rX T h, permTile x T h⟩ :: ih (Nat.le_of_succ_le h)) n

/-- All the stores of the reordered input, last first. -/
def permAll (x : Vec F S8x14208 .bf16) : List (View.Piece (Elt F) S8x14208 .bf16) :=
  ⟨rXl, permLast x⟩ :: permPieces x 55 le_rfl

end Cert.KernelIdeal.Body

end
-- ==== Proof.OutA.lean ====
module

public import proofs.«01_k».proof.Proof.Spec
public import proofs.«01_k».proof.Proof.RunA

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first point's stores of the reordered input. -/
theorem runA_perm (c : Dev nD) (i : grid0.Coords) (arg1 : Memref sig .tc .vmem S8x14208 .bf16) (harg1 : arg1.IsWhole) (arg2 : Memref sig .tc .vmem S7104x768 .i8) (harg2 : arg2.IsWhole) (arg3 : Memref sig .tc .vmem S444x768 .bf16) (harg3 : arg3.IsWhole) (arg4 : Memref sig .tc .vmem S444x768 .bf16) (harg4 : arg4.IsWhole) (arg5 : Memref sig .tc .vmem S8x768 .bf16) (harg5 : arg5.IsWhole) (arg6 : Memref sig .tc .vmem S8x14208 .bf16) (harg6 : arg6.IsWhole) (arg7 : Memref sig .tc .vmem S444x768 .f32) (harg7 : arg7.IsWhole) (arg8 : Memref sig .tc .vmem S444x768 .f32) (harg8 : arg8.IsWhole) (hc0 : cond0_0 i)
    (x0 : Vec F S8x14208 .bf16) (x1 : Vec F S7104x768 .i8) (x2 : Vec F S444x768 .bf16) (x3 : Vec F S444x768 .bf16) :
    (kernelRun0_A c i arg1 harg1 arg2 harg2 arg3 harg3 arg4 harg4 arg5 harg5 arg6 harg6 arg7 harg7 arg8 harg8 hc0 x0 x1 x2 x3).2.1 = permAll (View.readAt (Elt F) arg1.view (Rect.unit (s := S8x14208) ![0, 0] S8x14208.size inb_S8x14208_S8x14208_0_0).toLoadRect (harg1.unread x0)) := by
  sl_kernel_rfl

/-- What the first point stores, from the reordered input it has just stored and the point's blocks. -/
theorem runA_out (c : Dev nD) (i : grid0.Coords) (arg1 : Memref sig .tc .vmem S8x14208 .bf16) (harg1 : arg1.IsWhole) (arg2 : Memref sig .tc .vmem S7104x768 .i8) (harg2 : arg2.IsWhole) (arg3 : Memref sig .tc .vmem S444x768 .bf16) (harg3 : arg3.IsWhole) (arg4 : Memref sig .tc .vmem S444x768 .bf16) (harg4 : arg4.IsWhole) (arg5 : Memref sig .tc .vmem S8x768 .bf16) (harg5 : arg5.IsWhole) (arg6 : Memref sig .tc .vmem S8x14208 .bf16) (harg6 : arg6.IsWhole) (arg7 : Memref sig .tc .vmem S444x768 .f32) (harg7 : arg7.IsWhole) (arg8 : Memref sig .tc .vmem S444x768 .f32) (harg8 : arg8.IsWhole) (hc0 : cond0_0 i)
    (x0 : Vec F S8x14208 .bf16) (x1 : Vec F S7104x768 .i8) (x2 : Vec F S444x768 .bf16) (x3 : Vec F S444x768 .bf16) :
    (kernelRun0_A c i arg1 harg1 arg2 harg2 arg3 harg3 arg4 harg4 arg5 harg5 arg6 harg6 arg7 harg7 arg8 harg8 hc0 x0 x1 x2 x3).1
      = [⟨Rect.unit ![0, 0] S8x768.size inb_S8x768_S8x768_0_0,
        outSpec (fun T h => arg6.view.readCov (permAll (View.readAt (Elt F) arg1.view (Rect.unit (s := S8x14208) ![0, 0] S8x14208.size inb_S8x14208_S8x14208_0_0).toLoadRect (harg1.unread x0))) (rX T h).toLoadRect)
          (arg6.view.readCov (permAll (View.readAt (Elt F) arg1.view (Rect.unit (s := S8x14208) ![0, 0] S8x14208.size inb_S8x14208_S8x14208_0_0).toLoadRect (harg1.unread x0))) rXl.toLoadRect)
          (fun T h => View.readAt (Elt F) arg2.view (rW T h).toLoadRect (harg2.unread x1))
          (View.readAt (Elt F) arg2.view rWl.toLoadRect (harg2.unread x1))
          (fun g h => arg7.view.readCov [⟨rS, k0_pay120 (View.readAt (Elt F) arg3.view rS.toLoadRect (harg3.unread x2))⟩] (rG g h))
          (fun g h => arg8.view.readCov [⟨rS, k0_pay121 (View.readAt (Elt F) arg4.view rS.toLoadRect (harg4.unread x3))⟩] (rG g h))⟩] := by
  sl_kernel_rfl

end Cert.KernelIdeal.Body

end
-- ==== Proof.OutB.lean ====
module

public import proofs.«01_k».proof.Proof.Spec
public import proofs.«01_k».proof.Proof.RunB

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What a later point stores, from the input kept reordered and the point's blocks. -/
theorem runB_out (c : Dev nD) (i : grid0.Coords) (arg1 : Memref sig .tc .vmem S8x14208 .bf16) (harg1 : arg1.IsWhole) (arg2 : Memref sig .tc .vmem S7104x768 .i8) (harg2 : arg2.IsWhole) (arg3 : Memref sig .tc .vmem S444x768 .bf16) (harg3 : arg3.IsWhole) (arg4 : Memref sig .tc .vmem S444x768 .bf16) (harg4 : arg4.IsWhole) (arg5 : Memref sig .tc .vmem S8x768 .bf16) (harg5 : arg5.IsWhole) (arg6 : Memref sig .tc .vmem S8x14208 .bf16) (harg6 : arg6.IsWhole) (arg7 : Memref sig .tc .vmem S444x768 .f32) (harg7 : arg7.IsWhole) (arg8 : Memref sig .tc .vmem S444x768 .f32) (harg8 : arg8.IsWhole) (hc0 : ¬cond0_0 i)
    (x0 : Vec F S8x14208 .bf16) (x1 : Vec F S7104x768 .i8) (x2 : Vec F S444x768 .bf16) (x3 : Vec F S444x768 .bf16) (xs0 : Vec F S8x14208 .bf16) :
    (kernelRun0_B c i arg1 harg1 arg2 harg2 arg3 harg3 arg4 harg4 arg5 harg5 arg6 harg6 arg7 harg7 arg8 harg8 hc0 x0 x1 x2 x3 xs0).1
      = [⟨Rect.unit ![0, 0] S8x768.size inb_S8x768_S8x768_0_0,
        outSpec (fun T h => View.readAt (Elt F) arg6.view (rX T h).toLoadRect (harg6.unread xs0))
          (View.readAt (Elt F) arg6.view rXl.toLoadRect (harg6.unread xs0))
          (fun T h => View.readAt (Elt F) arg2.view (rW T h).toLoadRect (harg2.unread x1))
          (View.readAt (Elt F) arg2.view rWl.toLoadRect (harg2.unread x1))
          (fun g h => arg7.view.readCov [⟨rS, k0_pay120 (View.readAt (Elt F) arg3.view rS.toLoadRect (harg3.unread x2))⟩] (rG g h))
          (fun g h => arg8.view.readCov [⟨rS, k0_pay121 (View.readAt (Elt F) arg4.view rS.toLoadRect (harg4.unread x3))⟩] (rG g h))⟩] := by
  sl_kernel_rfl

end Cert.KernelIdeal.Body

end
-- ==== Proof.TileValue.lean ====
module

public import proofs.«01_k».proof.Proof.Spec
public import Idealize.ShloMosaic.Lib.Pointwise
public import Idealize.ShloMosaic.Lib.BitcastPair
public import Idealize.ShloMosaic.Lib.Pipeline.Value
public import Idealize.ShloMosaic.PureOps.Ideal.Laws

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One tile over the extended reals -/

/-- A packed byte spread over a 32-bit word: its low nibble in the low half, its high nibble in the high half. -/
def word (b : BitVec 8) : BitVec 32 := ((b.setWidth 32) &&& 15#32) ||| (((b.setWidth 32).sshiftRight' 4#32) <<< 16#32)

/-- The code in row `k` of a tile whose packed row `k / 2` holds byte `b`. -/
def nib (b : BitVec 8) (k : ℕ) : EReal := ((((word b).extractLsb' (16 * (k % 2)) 16).toInt : ℝ) : EReal)

/-- A 32-bit array read as 16-bit pairs of rows. -/
theorem bitcast_rows {R : ℕ} (w : IVec ⟨2, ![R, 768]⟩ 32) {R2 : ℕ} (hb : Shape.Bitcasts (⟨2, ![R, 768]⟩ : Shape) 32 ⟨2, ![R2, 768]⟩ 16)
    (r : Fin R2) (n : Fin 768) (r' : Fin R) (h : r'.val = r.val / 2) :
    bitcast ⟨2, ![R2, 768]⟩ 16 w hb (ix2 r n) = (w (ix2 r' n)).extractLsb' (16 * (r.val % 2)) 16 := by
  rw [bitcast_32_16]
  have hrow : (⟨2, ![R2, 768]⟩ : Shape).row (ix2 r n) = r.val := rfl
  refine congrArg (fun z => (w z).extractLsb' (16 * (r.val % 2)) 16) (funext fun a => Fin.ext ?_)
  fin_cases a
  · exact (Shape.Bitcasts.srcIdx_row hb _ _ _ _ rfl).trans (by rw [hrow]; exact h.symm)
  · exact Shape.Bitcasts.srcIdx_other hb _ _ _ _ (by simp)

theorem codes_apply (p : Vec Ideal S128x768 .i8) (r : Fin 256) (n : Fin 768) (r' : Fin 128) (h : r'.val = r.val / 2) :
    codes (F := Ideal) p (ix2 r n) = nib (p (ix2 r' n)) r.val := by
  unfold codes nib
  rw [shapeCast_self]
  exact congrArg (fun b : BitVec 16 => ((b.toInt : ℝ) : EReal)) (bitcast_rows (R := 128) (R2 := 256) _ bitcasts_S128x768_w32_S256x768_w16 r n r' h)

theorem codesLast_apply (p : Vec Ideal S64x768 .i8) (r : Fin 128) (n : Fin 768) (r' : Fin 64) (h : r'.val = r.val / 2) :
    codesLast (F := Ideal) p (ix2 r n) = nib (p (ix2 r' n)) r.val := by
  unfold codesLast nib
  rw [shapeCast_self]
  exact congrArg (fun b : BitVec 16 => ((b.toInt : ℝ) : EReal)) (bitcast_rows (R := 64) (R2 := 128) _ bitcasts_S64x768_w32_S128x768_w16 r n r' h)

theorem part_apply {R : ℕ} (c : FVec Ideal ⟨2, ![R, 768]⟩ .bf16) (sr mr : (g : ℕ) → g < 444 → Vec Ideal S32x768 .f32) (g : ℕ) (hg : g < 444)
    (o : ℕ) (ho : o + 32 ≤ R) (i : Fin 32) (n : Fin 768) (r : Fin R) (hr : r.val = o + i.val) :
    part (F := Ideal) c sr mr g hg o ho (ix2 i n) = c (ix2 r n) * sr g hg (ix2 i n) + mr g hg (ix2 i n) := by
  unfold part
  have e : extractStridedSlice S32x768 ![o, 0] c (slices32 ho) (ix2 i n) = c (ix2 r n) :=
    extractStridedSlice_apply _ _ _ _ _ (fun a => by fin_cases a; exacts [hr, (Nat.zero_add _).symm])
  rw [addf_apply, mulf_apply, e]
  rfl

section
variable (P : ℕ → Fin 768 → BitVec 8) (S M : ℕ → Fin 768 → EReal)

/-- The weight at row `r` (in the codes' order) and column `n`. -/
def wt (r : ℕ) (n : Fin 768) : EReal := nib (P (r / 2) n) r * S (r / 32) n + M (r / 32) n

variable {P S M}
variable {sr mr : (g : ℕ) → g < 444 → Vec Ideal S32x768 .f32}
  (hs : ∀ g hg i n, sr g hg (ix2 i n) = S g n) (hm : ∀ g hg i n, mr g hg (ix2 i n) = M g n)
include hs hm

theorem nib_mod (b : BitVec 8) {k k' : ℕ} (h : k % 2 = k' % 2) : nib b k = nib b k' := by
  unfold nib; rw [h]

theorem tileW_apply (p : Vec Ideal S128x768 .i8) (T : ℕ) (hT : T < 55) (hp : ∀ r n, p (ix2 r n) = P (128 * T + r.val) n)
    (r : Fin 256) (n : Fin 768) : tileW (F := Ideal) (codes p) sr mr T hT (ix2 r n) = wt P S M (256 * T + r.val) n := by
  have hr := r.isLt
  refine (concatenate_ofFn_apply (t := S256x768) (s₁ := S32x768) 0
    (fun q : Fin 8 => part (codes p) sr mr (8 * T + q.val) (by omega) (32 * q.val) (by omega)) _ rfl 32 rfl (ix2 r n)
    ⟨r.val / 32, by omega⟩ rfl (ix2 (⟨r.val % 32, by omega⟩ : Fin 32) n) rfl ?_).trans ?_
  · intro b hb; fin_cases b
    · exact absurd rfl hb
    · rfl
  · rw [part_apply (R := 256) _ _ _ _ _ _ _ _ _ r (by simp only []; omega), codes_apply p r n ⟨r.val / 2, by omega⟩ rfl, hs, hm, hp]
    unfold wt
    rw [show 128 * T + r.val / 2 = (256 * T + r.val) / 2 by omega, show 8 * T + r.val / 32 = (256 * T + r.val) / 32 by omega,
      nib_mod hs hm _ (k := r.val) (k' := 256 * T + r.val) (by omega)]

theorem tileWLast_apply (p : Vec Ideal S64x768 .i8) (hp : ∀ r n, p (ix2 r n) = P (7040 + r.val) n)
    (r : Fin 128) (n : Fin 768) : tileWLast (F := Ideal) (codesLast p) sr mr (ix2 r n) = wt P S M (14080 + r.val) n := by
  have hr := r.isLt
  refine (concatenate_ofFn_apply (t := S128x768) (s₁ := S32x768) 0
    (fun q : Fin 4 => part (codesLast p) sr mr (440 + q.val) (by omega) (32 * q.val) (by omega)) _ rfl 32 rfl (ix2 r n)
    ⟨r.val / 32, by omega⟩ rfl (ix2 (⟨r.val % 32, by omega⟩ : Fin 32) n) rfl ?_).trans ?_
  · intro b hb; fin_cases b
    · exact absurd rfl hb
    · rfl
  · rw [part_apply (R := 128) _ _ _ _ _ _ _ _ _ r (by simp only []; omega), codesLast_apply p r n ⟨r.val / 2, by omega⟩ rfl, hs, hm, hp]
    unfold wt
    rw [show 7040 + r.val / 2 = (14080 + r.val) / 2 by omega, show 440 + r.val / 32 = (14080 + r.val) / 32 by omega,
      nib_mod hs hm _ (k := r.val) (k' := 14080 + r.val) (by omega)]

variable {X : Fin 8 → ℕ → EReal} {xt : (T : ℕ) → T < 55 → Vec Ideal S8x256 .bf16} {xl : Vec Ideal S8x128 .bf16}
  {wts : (T : ℕ) → T < 55 → Vec Ideal S128x768 .i8} {wl : Vec Ideal S64x768 .i8}
  (hx : ∀ T hT b k, xt T hT (ix2 b k) = X b (256 * T + k.val)) (hxl : ∀ b k, xl (ix2 b k) = X b (14080 + k.val))
  (hw : ∀ T hT r n, wts T hT (ix2 r n) = P (128 * T + r.val) n) (hwl : ∀ r n, wl (ix2 r n) = P (7040 + r.val) n)

include hx hw in
theorem acc_apply (T : ℕ) (hT : T ≤ 55) (b : Fin 8) (n : Fin 768) :
    acc (F := Ideal) xt wts sr mr T hT (ix2 b n) = ∑ r ∈ Finset.range (256 * T), X b r * wt P S M r n := by
  induction T with
  | zero => exact Ideal.ofBits_zero_f32
  | succ T ih =>
    have h := ih (Nat.le_of_succ_le hT)
    have e : acc (F := Ideal) xt wts sr mr (T + 1) hT (ix2 b n)
        = acc (F := Ideal) xt wts sr mr T (Nat.le_of_succ_le hT) (ix2 b n)
          + (matmul (φ₁ := .bf16) dot_S8x256_S256x768_S8x768_1_0_0_1_n_n none (xt T hT) (tileW (codes (wts T hT)) sr mr T hT)
              (constant S8x768 .f32 0x00000000#32) (ix2 b n) : EReal) := rfl
    rw [e, h, show 256 * (T + 1) = 256 * T + 256 by omega, Finset.sum_range_add]
    congr 1
    rw [Finset.sum_range]
    have e2 : (matmul (φ₁ := .bf16) dot_S8x256_S256x768_S8x768_1_0_0_1_n_n none (xt T hT) (tileW (codes (wts T hT)) sr mr T hT)
              (constant S8x768 .f32 0x00000000#32) (ix2 b n) : EReal)
        = ∑ k : Fin 256, xt T hT (ix2 b k) * tileW (codes (wts T hT)) sr mr T hT (ix2 k n) := by
      pointwise []
    rw [e2]
    exact Finset.sum_congr rfl fun k _ => by rw [hx, tileW_apply hs hm _ T hT (hw T hT)]

include hx hxl hw hwl in
/-- What a grid point stores, as one sum over the codes' rows. -/
theorem outSpec_apply (b : Fin 8) (n : Fin 768) :
    outSpec (F := Ideal) xt xl wts wl sr mr (ix2 b n) = ∑ r ∈ Finset.range 14208, X b r * wt P S M r n := by
  have e : outSpec (F := Ideal) xt xl wts wl sr mr (ix2 b n)
      = acc (F := Ideal) xt wts sr mr 55 le_rfl (ix2 b n)
        + (matmul (φ₁ := .bf16) dot_S8x128_S128x768_S8x768_1_0_0_1_n_n none xl (tileWLast (codesLast wl) sr mr)
            (constant S8x768 .f32 0x00000000#32) (ix2 b n) : EReal) := rfl
  rw [e, acc_apply hs hm hx hw, show (14208 : ℕ) = 256 * 55 + 128 by norm_num, Finset.sum_range_add]
  congr 1
  rw [Finset.sum_range]
  have e2 : (matmul (φ₁ := .bf16) dot_S8x128_S128x768_S8x768_1_0_0_1_n_n none xl (tileWLast (codesLast wl) sr mr)
            (constant S8x768 .f32 0x00000000#32) (ix2 b n) : EReal)
      = ∑ k : Fin 128, xl (ix2 b k) * tileWLast (codesLast wl) sr mr (ix2 k n) := by
    pointwise []
  rw [e2]
  exact Finset.sum_congr rfl fun k _ => by rw [hxl, tileWLast_apply hs hm _ hwl]

end

end Cert.KernelIdeal.Body

end
-- ==== Proof.PermValue.lean ====
module

public import proofs.«01_k».proof.Proof.Spec
public import Idealize.ShloMosaic.Lib.Pointwise
public import Idealize.ShloMosaic.Lib.Pipeline.Value
public import Idealize.ShloMosaic.PureOps.Ideal.Laws
public import Idealize.ShloMosaic.Lib.IdealHost

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The reordered input over the extended reals -/

/-- The column of the input that the reordered input holds at column `r`: inside its group of 32, even columns come from
the first half and odd ones from the second. -/
def src (r : ℕ) : ℕ := 32 * (r / 32) + 16 * (r % 2) + r / 2 % 16

theorem src_add (T j : ℕ) : src (256 * T + j) = 256 * T + src j := by unfold src; omega

theorem src_lt {j : ℕ} (h : j < 256) : src j < 256 := by unfold src; omega

/-- The input at any column, zero past its end. -/
def ext (x : Vec Ideal S8x14208 .bf16) (b : Fin 8) (k : ℕ) : EReal := if h : k < 14208 then x (ix2 b ⟨k, h⟩) else 0

theorem xpad_apply (x : Vec Ideal S8x14208 .bf16) (b : Fin 8) (k : Fin 14336) : xpad (F := Ideal) x (ix2 b k) = ext x b k.val := by
  unfold xpad
  rw [shapeCast_self]
  by_cases h : k.val < 14208
  · rw [ext, dif_pos h]
    exact concatenate_pair_apply_left (t := S8x14336) (s₁ := S8x14208) (s₂ := S8x128) 1 _ _ _ (ix2 b k) rfl (ix2 b ⟨k.val, h⟩)
      (fun a => by fin_cases a <;> rfl)
  · rw [ext, dif_neg h]
    refine (concatenate_pair_apply_right (t := S8x14336) (s₁ := S8x14208) (s₂ := S8x128) 1 _ _ _ (ix2 b k) rfl rfl
      (ix2 b (⟨k.val - 14208, by omega⟩ : Fin 128)) ?_ ?_).trans Ideal.ofBits_zero_f32
    · intro a ha; fin_cases a
      · rfl
      · exact absurd rfl ha
    · exact Nat.sub_add_cancel (Nat.le_of_not_lt h)

theorem xstack_apply (x : Vec Ideal S8x14208 .bf16) (q : Fin 448) (k : Fin 256) :
    xstack (F := Ideal) x (ix2 q k) = ext x ⟨q.val % 8, by omega⟩ (256 * (q.val / 8) + k.val) := by
  refine (concatenate_ofFn_apply (t := S448x256) (s₁ := S8x256) 0
    (fun T : Fin 56 => extractStridedSlice S8x256 ![0, 256 * T.val] (xpad x) (slicesPad T.isLt)) _ rfl 8 rfl (ix2 q k)
    ⟨q.val / 8, by omega⟩ rfl (ix2 (⟨q.val % 8, by omega⟩ : Fin 8) k) rfl ?_).trans ?_
  · intro b hb; fin_cases b
    · exact absurd rfl hb
    · rfl
  · have hq := q.isLt
    have hk := k.isLt
    refine (extractStridedSlice_apply _ _ _ _ (ix2 (⟨q.val % 8, by omega⟩ : Fin 8) (⟨256 * (q.val / 8) + k.val, by omega⟩ : Fin 14336))
      (fun a => by fin_cases a; exacts [(Nat.zero_add _).symm, rfl])).trans (xpad_apply x _ _)

/-- The source column as the body computes it, in 32-bit words. -/
theorem srcWord_eq : ∀ j : Fin 256,
    ((BitVec.ofNat 32 j.val &&& 4294967264#32) ||| ((BitVec.ofNat 32 j.val &&& 1#32) <<< 4#32))
      ||| ((BitVec.ofNat 32 j.val).sshiftRight' 1#32 &&& 15#32) = BitVec.ofNat 32 (src j.val) := by
  decide +kernel

theorem srcWord_apply (i j : Fin 256) : srcWord (ix2 i j) = BitVec.ofNat 32 (src j.val) := by
  refine Eq.trans ?_ (srcWord_eq j)
  have h : iota .tc S256x256 32 [1] iota_S256x256_d1_w32 (ix2 i j) = BitVec.ofNat 32 j.val := iota_single_apply _ _ _ _ _ _
  rw [← h]
  rfl

theorem permMat_apply (i j : Fin 256) : permMat (F := Ideal) (ix2 i j) = if i.val = src j.val then (1 : EReal) else 0 := by
  have h : iota .tc S256x256 32 [0] iota_S256x256_d0_w32 (ix2 i j) = BitVec.ofNat 32 i.val := iota_single_apply _ _ _ _ _ _
  have e : permMat (F := Ideal) (ix2 i j)
      = if BitVec.ofBool (iota .tc S256x256 32 [0] iota_S256x256_d0_w32 (ix2 i j) == srcWord (ix2 i j)) = 1#1
        then Ideal.ofBits .f32 0x3F800000#32 else Ideal.ofBits .f32 0x00000000#32 := by
    unfold permMat
    pointwise []
    rfl
  rw [e, h, srcWord_apply, Ideal.ofBits_one_f32, Ideal.ofBits_zero_f32]
  have hi := i.isLt
  have hj := src_lt j.isLt
  have hiff : (BitVec.ofNat 32 i.val = BitVec.ofNat 32 (src j.val)) ↔ i.val = src j.val := by
    rw [← BitVec.toNat_inj, BitVec.toNat_ofNat, BitVec.toNat_ofNat, Nat.mod_eq_of_lt (by omega), Nat.mod_eq_of_lt (by omega)]
  by_cases hq : i.val = src j.val
  · rw [if_pos hq, if_pos (by rw [beq_iff_eq.2 (hiff.2 hq)]; rfl)]
  · rw [if_neg hq, if_neg (by rw [beq_eq_false_iff_ne.2 (fun h' => hq (hiff.1 h'))]; decide)]

theorem xdot_apply (x : Vec Ideal S8x14208 .bf16) (q : Fin 448) (j : Fin 256) :
    xdot (F := Ideal) x (ix2 q j) = ext x ⟨q.val % 8, by omega⟩ (256 * (q.val / 8) + src j.val) := by
  have e : xdot (F := Ideal) x (ix2 q j) = ∑ i : Fin 256, (xstack x (ix2 q i) * permMat (F := Ideal) (ix2 i j) : EReal) := by
    unfold xdot
    pointwise []
  rw [e, Finset.sum_eq_single (⟨src j.val, src_lt j.isLt⟩ : Fin 256)]
  · rw [permMat_apply, if_pos rfl, mul_one, xstack_apply]
  · intro i _ hi
    rw [permMat_apply, if_neg (fun h => hi (Fin.ext h)), mul_zero]
  · exact fun h => absurd (Finset.mem_univ _) h

theorem permTile_apply (x : Vec Ideal S8x14208 .bf16) (T : ℕ) (hT : T < 55) (b : Fin 8) (j : Fin 256) :
    permTile (F := Ideal) x T hT (ix2 b j) = ext x b (src (256 * T + j.val)) := by
  have hb := b.isLt
  unfold permTile
  rw [shapeCast_self]
  refine (extractStridedSlice_apply (s := S448x256) (t := S8x256) ![8 * T, 0] (xdot x) (slicesDot (Nat.lt_succ_of_lt hT)) (ix2 b j) (ix2 (⟨8 * T + b.val, by omega⟩ : Fin 448) j)
    (fun a => by fin_cases a; exacts [rfl, (Nat.zero_add _).symm])).trans ?_
  rw [xdot_apply, src_add]
  congr 1
  · exact Fin.ext (by simp only []; omega)
  · simp only []; omega

theorem permLast_apply (x : Vec Ideal S8x14208 .bf16) (b : Fin 8) (j : Fin 128) :
    permLast (F := Ideal) x (ix2 b j) = ext x b (src (14080 + j.val)) := by
  have hb := b.isLt
  have hj := j.isLt
  unfold permLast
  rw [shapeCast_self]
  refine (extractStridedSlice_apply (s := S448x256) (t := S8x128) ![440, 0] (xdot x) slices_S448x256_o440_0_S8x128 (ix2 b j) (ix2 (⟨440 + b.val, by omega⟩ : Fin 448) (⟨j.val, by omega⟩ : Fin 256))
    (fun a => by fin_cases a; exacts [rfl, (Nat.zero_add _).symm])).trans ?_
  rw [xdot_apply, show 14080 + j.val = 256 * 55 + j.val by omega, src_add]
  congr 1
  · exact Fin.ext (by simp only []; omega)
  · simp only []; omega

end Cert.KernelIdeal.Body

end
-- ==== Proof.CellValue.lean ====
module

public import proofs.«01_k».proof.Proof.OutA
public import proofs.«01_k».proof.Proof.OutB
public import proofs.«01_k».proof.Proof.TileValue
public import proofs.«01_k».proof.Proof.PermValue
public import proofs.«01_k».proof.Proof.Frame
public import Idealize.ShloMosaic.Lib.WholeRead
public import Idealize.ShloMosaic.Lib.VecWindow

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One grid point over the extended reals: what it leaves in its output block and in the kept input -/

/-- Packed row `r` of a block, zero past the last. -/
def rowsW (x : Vec Ideal S7104x768 .i8) (r : ℕ) (n : Fin 768) : BitVec 8 := if h : r < 7104 then x (ix2 ⟨r, h⟩ n) else 0
/-- Row `g` of a block of scales or minima, zero past the last. -/
def rowsS (x : Vec Ideal S444x768 .bf16) (g : ℕ) (n : Fin 768) : EReal := if h : g < 444 then x (ix2 ⟨g, h⟩ n) else 0

/-- The output block of a point, from the reordered input and the point's blocks. -/
def cell (X : Fin 8 → ℕ → EReal) (x1 : Vec Ideal S7104x768 .i8) (x2 x3 : Vec Ideal S444x768 .bf16) : Vec Ideal S8x768 .bf16 :=
  fun y => ∑ r ∈ Finset.range 14208, X (y 0) r * wt (rowsW x1) (rowsS x2) (rowsS x3) r (y 1)

/-- The reordered input. -/
def perm (x : Vec Ideal S8x14208 .bf16) : Vec Ideal S8x14208 .bf16 := fun y => ext x (y 0) (src (y 1).val)

theorem src_lt_all {r : ℕ} (h : r < 14208) : src r < 14208 := by unfold src; omega

theorem perm_apply (x : Vec Ideal S8x14208 .bf16) (b : Fin 8) (r : Fin 14208) :
    perm x (ix2 b r) = ext x b (src r.val) := rfl

/-- A load of the scales or minima stored whole reads, in every one of its 32 rows, row `g`. -/
theorem load_row (v : View sig .tc .vmem S444x768 .f32) (x : Vec Ideal S444x768 .f32) (g : ℕ) (hg : g < 444) (i : Fin 32) (n : Fin 768) :
    v.readCov [⟨rS, x⟩] (rG g hg) (ix2 i n) = x (ix2 ⟨g, hg⟩ n) := by
  unfold View.readCov
  rw [View.readAt_apply, View.read_writes_full]
  refine congrArg x (funext fun a => Fin.ext ?_)
  fin_cases a
  · show g + 0 * i.val = g
    omega
  · show 0 + 1 * n.val = n.val
    omega

theorem pay120_eq (x : Vec Ideal S444x768 .bf16) : k0_pay120 (F := Ideal) x = x := by
  unfold k0_pay120
  simp only [shapeCast_self]
  rfl

theorem pay121_eq (x : Vec Ideal S444x768 .bf16) : k0_pay121 (F := Ideal) x = x := by
  unfold k0_pay121
  simp only [shapeCast_self]
  rfl

section
variable {X : Fin 8 → ℕ → EReal} {xt : (T : ℕ) → T < 55 → Vec Ideal S8x256 .bf16} {xl : Vec Ideal S8x128 .bf16}
  (hx : ∀ T hT b k, xt T hT (ix2 b k) = X b (256 * T + k.val)) (hxl : ∀ b k, xl (ix2 b k) = X b (14080 + k.val))
  (v2 : Memref sig .tc .vmem S7104x768 .i8) (h2 : v2.IsWhole) (v3 : Memref sig .tc .vmem S444x768 .bf16) (h3 : v3.IsWhole)
  (v4 : Memref sig .tc .vmem S444x768 .bf16) (h4 : v4.IsWhole) (v7 v8 : View sig .tc .vmem S444x768 .f32)
  (x1 : Vec Ideal S7104x768 .i8) (x2 x3 : Vec Ideal S444x768 .bf16)

include hx hxl in
/-- What a point stores, from tiles of the reordered input however loaded. -/
theorem outSpec_eq_cell :
    outSpec (F := Ideal) xt xl (fun T h => View.readAt (Elt Ideal) v2.view (rW T h).toLoadRect (h2.unread x1))
          (View.readAt (Elt Ideal) v2.view rWl.toLoadRect (h2.unread x1))
          (fun g h => v7.readCov [⟨rS, k0_pay120 (View.readAt (Elt Ideal) v3.view rS.toLoadRect (h3.unread x2))⟩] (rG g h))
          (fun g h => v8.readCov [⟨rS, k0_pay121 (View.readAt (Elt Ideal) v4.view rS.toLoadRect (h4.unread x3))⟩] (rG g h))
      = cell X x1 x2 x3 := by
  funext y
  obtain ⟨b, n, rfl⟩ : ∃ (b : Fin 8) (n : Fin 768), y = ix2 b n := ⟨y 0, y 1, (ix2_eta y).symm⟩
  refine outSpec_apply (P := rowsW x1) (S := rowsS x2) (M := rowsS x3) (X := X) ?_ ?_ hx hxl ?_ ?_ b n
  · intro g hg i n
    rw [load_row, pay120_eq, View.readAt_full, h3.read_unread, rowsS, dif_pos hg]
  · intro g hg i n
    rw [load_row, pay121_eq, View.readAt_full, h4.read_unread, rowsS, dif_pos hg]
  · intro T hT r n
    have hr := r.isLt
    rw [h2.readAt_unread, rowsW, dif_pos (by omega)]
    refine congrArg x1 (funext fun a => Fin.ext ?_)
    fin_cases a
    · show 128 * T + 1 * r.val = 128 * T + r.val
      omega
    · show 0 + 1 * n.val = n.val
      omega
  · intro r n
    have hr := r.isLt
    rw [h2.readAt_unread, rowsW, dif_pos (by omega)]
    refine congrArg x1 (funext fun a => Fin.ext ?_)
    fin_cases a
    · show 7040 + 1 * r.val = 7040 + r.val
      omega
    · show 0 + 1 * n.val = n.val
      omega
end

/-! ### The first point's stores of the reordered input -/

theorem mem_permPieces (x : Vec Ideal S8x14208 .bf16) (n : ℕ) (hn : n ≤ 55) (T : ℕ) (hT : T < n) :
    (⟨rX T (by omega), permTile x T (by omega)⟩ : View.Piece (Elt Ideal) S8x14208 .bf16) ∈ permPieces x n hn := by
  induction n with
  | zero => omega
  | succ n ih =>
    by_cases h : T = n
    · subst h; exact List.mem_cons_self
    · exact List.mem_cons_of_mem _ (ih (Nat.le_of_succ_le hn) (by omega))

theorem emb_rX (T : ℕ) (hT : T < 55) (b : Fin 8) (k : Fin 256) :
    (rX T hT).emb (ix2 b k) = ix2 b ⟨256 * T + k.val, by have := k.isLt; omega⟩ := by
  funext a
  apply Fin.ext
  fin_cases a
  · show 0 + 1 * b.val = b.val
    omega
  · show 256 * T + 1 * k.val = 256 * T + k.val
    omega

theorem emb_rXl (b : Fin 8) (k : Fin 128) :
    rXl.emb (ix2 b k) = ix2 b ⟨14080 + k.val, by have := k.isLt; omega⟩ := by
  funext a
  apply Fin.ext
  fin_cases a
  · show 0 + 1 * b.val = b.val
    omega
  · show 14080 + 1 * k.val = 14080 + k.val
    omega

theorem permPieces_spec (x : Vec Ideal S8x14208 .bf16) (n : ℕ) (hn : n ≤ 55) :
    ∀ p ∈ permPieces (F := Ideal) x n hn, ∀ z : p.1.shape.Idx, p.2 z = perm x (p.1.emb z) := by
  induction n with
  | zero => intro p hp; exact absurd hp List.not_mem_nil
  | succ T ih =>
    intro p hp
    rcases List.mem_cons.mp hp with rfl | hp
    · intro z
      obtain ⟨b, k, rfl⟩ : ∃ (b : Fin 8) (k : Fin 256), z = ix2 b k := ⟨z 0, z 1, (ix2_eta z).symm⟩
      exact (permTile_apply x T hn b k).trans ((congrArg (perm x) (emb_rX T hn b k)).trans (perm_apply x b _)).symm
    · exact ih (Nat.le_of_succ_le hn) p hp

theorem permAll_spec (x : Vec Ideal S8x14208 .bf16) :
    ∀ p ∈ permAll (F := Ideal) x, ∀ z : p.1.shape.Idx, p.2 z = perm x (p.1.emb z) := by
  intro p hp
  rcases List.mem_cons.mp hp with rfl | hp
  · intro z
    obtain ⟨b, k, rfl⟩ : ∃ (b : Fin 8) (k : Fin 128), z = ix2 b k := ⟨z 0, z 1, (ix2_eta z).symm⟩
    exact (permLast_apply x b k).trans ((congrArg (perm x) (emb_rXl b k)).trans (perm_apply x b _)).symm
  · exact permPieces_spec x 55 le_rfl p hp

theorem permAll_cover (x : Vec Ideal S8x14208 .bf16) (y : S8x14208.Idx) : ∃ p ∈ permAll (F := Ideal) x, y ∈ p.1.set := by
  have h0 : (y 0).val < 8 := (y 0).isLt
  have h1 : (y 1).val < 14208 := (y 1).isLt
  by_cases h : 14080 ≤ (y 1).val
  · refine ⟨⟨rXl, permLast x⟩, List.mem_cons_self, (Rect.mem_set_unit (inb := inb_S8x14208_S8x128_0_14080)).2 fun a => ?_⟩
    fin_cases a
    · exact ⟨Nat.zero_le _, h0⟩
    · exact ⟨h, h1⟩
  · refine ⟨_, List.mem_cons_of_mem _ (mem_permPieces x 55 le_rfl ((y 1).val / 256) (by omega)),
      (Rect.mem_set_unit (inb := inbX ((y 1).val / 256) (by omega))).2 fun a => ?_⟩
    fin_cases a
    · exact ⟨Nat.zero_le _, h0⟩
    · show 256 * ((y 1).val / 256) ≤ (y 1).val ∧ (y 1).val < 256 * ((y 1).val / 256) + 256
      omega

/-- Read anywhere, the stores leave the reordered input. -/
theorem canon_permAll (x : Vec Ideal S8x14208 .bf16) : View.canon (permAll (F := Ideal) x) = perm x :=
  funext fun y => View.canon_apply_of_pieces (perm x) _ (permAll_spec x) y (permAll_cover x y)

/-! ### The two cases -/

/-- What the first point leaves in the kept input: the reordered input. -/
theorem sout_A (c : Dev nD) (i : grid0.Coords) (arg1 : Memref sig .tc .vmem S8x14208 .bf16) (harg1 : arg1.IsWhole) (arg2 : Memref sig .tc .vmem S7104x768 .i8) (harg2 : arg2.IsWhole) (arg3 : Memref sig .tc .vmem S444x768 .bf16) (harg3 : arg3.IsWhole) (arg4 : Memref sig .tc .vmem S444x768 .bf16) (harg4 : arg4.IsWhole) (arg5 : Memref sig .tc .vmem S8x768 .bf16) (harg5 : arg5.IsWhole) (arg6 : Memref sig .tc .vmem S8x14208 .bf16) (harg6 : arg6.IsWhole) (arg7 : Memref sig .tc .vmem S444x768 .f32) (harg7 : arg7.IsWhole) (arg8 : Memref sig .tc .vmem S444x768 .f32) (harg8 : arg8.IsWhole) (hc0 : cond0_0 i)
    (x0 : Vec Ideal S8x14208 .bf16) (x1 : Vec Ideal S7104x768 .i8) (x2 : Vec Ideal S444x768 .bf16) (x3 : Vec Ideal S444x768 .bf16) :
    sout0_A_0 (F := Ideal) c i arg1 harg1 arg2 harg2 arg3 harg3 arg4 harg4 arg5 harg5 arg6 harg6 arg7 harg7 arg8 harg8 hc0 x0 x1 x2 x3 = perm x0 := by
  unfold sout0_A_0
  rw [runA_perm, View.read_writes_junk_eq_canon, View.readAt_full, harg1.read_unread, canon_permAll]

/-- What the first point leaves in its output block. -/
theorem out_A (c : Dev nD) (i : grid0.Coords) (arg1 : Memref sig .tc .vmem S8x14208 .bf16) (harg1 : arg1.IsWhole) (arg2 : Memref sig .tc .vmem S7104x768 .i8) (harg2 : arg2.IsWhole) (arg3 : Memref sig .tc .vmem S444x768 .bf16) (harg3 : arg3.IsWhole) (arg4 : Memref sig .tc .vmem S444x768 .bf16) (harg4 : arg4.IsWhole) (arg5 : Memref sig .tc .vmem S8x768 .bf16) (harg5 : arg5.IsWhole) (arg6 : Memref sig .tc .vmem S8x14208 .bf16) (harg6 : arg6.IsWhole) (arg7 : Memref sig .tc .vmem S444x768 .f32) (harg7 : arg7.IsWhole) (arg8 : Memref sig .tc .vmem S444x768 .f32) (harg8 : arg8.IsWhole) (hc0 : cond0_0 i)
    (x0 : Vec Ideal S8x14208 .bf16) (x1 : Vec Ideal S7104x768 .i8) (x2 : Vec Ideal S444x768 .bf16) (x3 : Vec Ideal S444x768 .bf16) :
    out0_A_4 (F := Ideal) c i arg1 harg1 arg2 harg2 arg3 harg3 arg4 harg4 arg5 harg5 arg6 harg6 arg7 harg7 arg8 harg8 hc0 x0 x1 x2 x3 = cell (fun b r => ext x0 b (src r)) x1 x2 x3 := by
  unfold out0_A_4
  rw [runA_out, View.read_writes_full]
  refine outSpec_eq_cell ?_ ?_ arg2 harg2 arg3 harg3 arg4 harg4 arg7.view arg8.view x1 x2 x3
  · intro T hT b k
    rw [View.readAt_full, harg1.read_unread, View.readCov_eq_canon', canon_permAll]
    exact (congrArg (perm x0) (emb_rX T hT b k)).trans (perm_apply x0 b _)
  · intro b k
    rw [View.readAt_full, harg1.read_unread, View.readCov_eq_canon', canon_permAll]
    exact (congrArg (perm x0) (emb_rXl b k)).trans (perm_apply x0 b _)

/-- What a later point leaves in its output block, the kept input being the reordered one. -/
theorem out_B (c : Dev nD) (i : grid0.Coords) (arg1 : Memref sig .tc .vmem S8x14208 .bf16) (harg1 : arg1.IsWhole) (arg2 : Memref sig .tc .vmem S7104x768 .i8) (harg2 : arg2.IsWhole) (arg3 : Memref sig .tc .vmem S444x768 .bf16) (harg3 : arg3.IsWhole) (arg4 : Memref sig .tc .vmem S444x768 .bf16) (harg4 : arg4.IsWhole) (arg5 : Memref sig .tc .vmem S8x768 .bf16) (harg5 : arg5.IsWhole) (arg6 : Memref sig .tc .vmem S8x14208 .bf16) (harg6 : arg6.IsWhole) (arg7 : Memref sig .tc .vmem S444x768 .f32) (harg7 : arg7.IsWhole) (arg8 : Memref sig .tc .vmem S444x768 .f32) (harg8 : arg8.IsWhole) (hc0 : ¬cond0_0 i)
    (x0 : Vec Ideal S8x14208 .bf16) (x1 : Vec Ideal S7104x768 .i8) (x2 : Vec Ideal S444x768 .bf16) (x3 : Vec Ideal S444x768 .bf16) (x : Vec Ideal S8x14208 .bf16) :
    out0_B_4 (F := Ideal) c i arg1 harg1 arg2 harg2 arg3 harg3 arg4 harg4 arg5 harg5 arg6 harg6 arg7 harg7 arg8 harg8 hc0 x0 x1 x2 x3 (perm x) = cell (fun b r => ext x b (src r)) x1 x2 x3 := by
  unfold out0_B_4
  rw [runB_out, View.read_writes_full]
  refine outSpec_eq_cell ?_ ?_ arg2 harg2 arg3 harg3 arg4 harg4 arg7.view arg8.view x1 x2 x3
  · intro T hT b k
    rw [harg6.readAt_unread]
    exact (congrArg (perm x) (emb_rX T hT b k)).trans (perm_apply x b _)
  · intro b k
    rw [harg6.readAt_unread]
    exact (congrArg (perm x) (emb_rXl b k)).trans (perm_apply x b _)

end Cert.KernelIdeal.Body

end
-- ==== Proof.ArrayValue.lean ====
module

public import proofs.«01_k».proof.Proof.CellValue
public import Idealize.ShloMosaic.Lib.StableHlo.Run

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The arrays after the run, over the extended reals -/

variable (m : (ℓ : Loc nD τ sig) → Buf (Elt Ideal) ℓ) (ρ : Dev nD → PrngReg)

/-- The arrays the windows read, as the region finds them. -/
abbrev arrX (c : Dev nD) : Vec Ideal S8x14208 .bf16 := V m c main_v0
abbrev arrW (c : Dev nD) : Vec Ideal S7104x6912 .i8 := V m c main_v1
abbrev arrS (c : Dev nD) : Vec Ideal S444x6912 .bf16 := V m c main_v2
abbrev arrM (c : Dev nD) : Vec Ideal S444x6912 .bf16 := V m c main_v3

/-- The weight at row `r` (in the codes' order) and output column `o`. -/
def wtAll (W : Vec Ideal S7104x6912 .i8) (S M : Vec Ideal S444x6912 .bf16) (r : ℕ) (o : Fin 6912) : EReal :=
  if h : r < 14208 then
    nib (W (ix2 ⟨r / 2, by omega⟩ o)) r * S (ix2 ⟨r / 32, by omega⟩ o) + M (ix2 ⟨r / 32, by omega⟩ o)
  else 0

/-- The whole output array. -/
def arrOut (X : Vec Ideal S8x14208 .bf16) (W : Vec Ideal S7104x6912 .i8) (S M : Vec Ideal S444x6912 .bf16) : Vec Ideal S8x6912 .bf16 :=
  fun y => ∑ r ∈ Finset.range 14208, ext X (y 0) (src r) * wtAll W S M r (y 1)

/-- Which block each window holds at a point. -/
theorem idx_facts : ∀ t : Fin cfg0.N, win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val
    ∧ win0_4.index t (0 : Fin 2) = 0 ∧ win0_4.index t (1 : Fin 2) = t.val :=
  (by decide +kernel : ∀ t : Fin grid0.N, _)

theorem lt9 (t : Fin cfg0.N) : t.val < 9 := Nat.lt_of_lt_of_eq t.isLt N_0

/-- Column `n` of block `t`. -/
abbrev col (t : Fin cfg0.N) (n : Fin 768) : Fin 6912 := ⟨768 * t.val + n.val, by have := lt9 t; omega⟩

theorem blk0 (c : Dev nD) (t : Fin cfg0.N) : (iblk m c 0 t : Vec Ideal S8x14208 .bf16) = arrX m c := by
  obtain ⟨e0, e1, -⟩ := idx_facts t
  funext y
  refine congrArg (arrX m c) (funext fun a => Fin.ext ?_)
  match a with
  | ⟨0, _⟩ => show win0_0.index t (0 : Fin 2) * 8 + 1 * (y 0).val = (y 0).val; omega
  | ⟨1, _⟩ => show win0_0.index t (1 : Fin 2) * 14208 + 1 * (y 1).val = (y 1).val; omega

theorem blk1 (c : Dev nD) (t : Fin cfg0.N) (r : Fin 7104) (n : Fin 768) :
    (iblk m c 1 t : Vec Ideal S7104x768 .i8) (ix2 r n) = arrW m c (ix2 r (col t n)) := by
  obtain ⟨-, -, e0, e1, -⟩ := idx_facts t
  refine congrArg (arrW m c) (funext fun a => Fin.ext ?_)
  match a with
  | ⟨0, _⟩ => show win0_1.index t (0 : Fin 2) * 7104 + 1 * r.val = r.val; omega
  | ⟨1, _⟩ => show win0_1.index t (1 : Fin 2) * 768 + 1 * n.val = 768 * t.val + n.val; omega

theorem blk2 (c : Dev nD) (t : Fin cfg0.N) (r : Fin 444) (n : Fin 768) :
    (iblk m c 2 t : Vec Ideal S444x768 .bf16) (ix2 r n) = arrS m c (ix2 r (col t n)) := by
  obtain ⟨-, -, -, -, e0, e1, -⟩ := idx_facts t
  refine congrArg (arrS m c) (funext fun a => Fin.ext ?_)
  match a with
  | ⟨0, _⟩ => show win0_2.index t (0 : Fin 2) * 444 + 1 * r.val = r.val; omega
  | ⟨1, _⟩ => show win0_2.index t (1 : Fin 2) * 768 + 1 * n.val = 768 * t.val + n.val; omega

theorem blk3 (c : Dev nD) (t : Fin cfg0.N) (r : Fin 444) (n : Fin 768) :
    (iblk m c 3 t : Vec Ideal S444x768 .bf16) (ix2 r n) = arrM m c (ix2 r (col t n)) := by
  obtain ⟨-, -, -, -, -, -, e0, e1, -⟩ := idx_facts t
  refine congrArg (arrM m c) (funext fun a => Fin.ext ?_)
  match a with
  | ⟨0, _⟩ => show win0_3.index t (0 : Fin 2) * 444 + 1 * r.val = r.val; omega
  | ⟨1, _⟩ => show win0_3.index t (1 : Fin 2) * 768 + 1 * n.val = 768 * t.val + n.val; omega

/-- The first point's kept input and output block. -/
theorem outs_A (c : Dev nD) (t : Fin cfg0.N) (h0 : t.val % 9 = 0) :
    outsAt0 m c t.val t.isLt = (cell (fun b r => ext (arrX m c) b (src r)) (iblk m c 1 t) (iblk m c 2 t) (iblk m c 3 t), perm (arrX m c)) := by
  refine (outsAt0_A m c t h0).trans ?_
  rw [out_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (iblk m c 0 t) (iblk m c 1 t) (iblk m c 2 t) (iblk m c 3 t), sout_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (iblk m c 0 t) (iblk m c 1 t) (iblk m c 2 t) (iblk m c 3 t), blk0]

/-- A later point's output block, over a reordered kept input, which it leaves alone. -/
theorem outs_B (c : Dev nD) (t : Fin cfg0.N) (h0 : ¬t.val % 9 = 0)
    (hk : (outsAt0 m c (t.val - 1) (Nat.lt_of_le_of_lt (Nat.sub_le _ _) t.isLt)).2 = perm (arrX m c)) :
    outsAt0 m c t.val t.isLt = (cell (fun b r => ext (arrX m c) b (src r)) (iblk m c 1 t) (iblk m c 2 t) (iblk m c 3 t), perm (arrX m c)) := by
  refine (outsAt0_B m c t h0).trans ?_
  rw [hk, out_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (arrX m c)]
  rfl

/-- What every point leaves: its output block, and the reordered input. -/
theorem outs_all (c : Dev nD) (n : ℕ) : ∀ hn : n < cfg0.N,
    outsAt0 m c n hn = (cell (fun b r => ext (arrX m c) b (src r)) (iblk m c 1 ⟨n, hn⟩) (iblk m c 2 ⟨n, hn⟩) (iblk m c 3 ⟨n, hn⟩), perm (arrX m c)) := by
  induction n with
  | zero => exact fun hn => outs_A m c ⟨0, hn⟩ (Nat.zero_mod _)
  | succ n ih =>
    intro hn
    have h9 : n + 1 < 9 := lt9 ⟨n + 1, hn⟩
    exact outs_B m c ⟨n + 1, hn⟩ (by show ¬(n + 1) % 9 = 0; omega) (congrArg Prod.snd (ih (Nat.lt_of_succ_lt hn)))

theorem outs_eq (c : Dev nD) (t : Fin cfg0.N) :
    (outsAt0 m c t.val t.isLt).1 = cell (fun b r => ext (arrX m c) b (src r)) (iblk m c 1 t) (iblk m c 2 t) (iblk m c 3 t) :=
  congrArg Prod.fst (outs_all m c t.val t.isLt)

/-- … which is its block of the whole output array. -/
theorem outs_apply (c : Dev nD) (t : Fin cfg0.N) (b : Fin 8) (n : Fin 768) :
    (outsAt0 m c t.val t.isLt).1 (ix2 b n) = arrOut (arrX m c) (arrW m c) (arrS m c) (arrM m c) (ix2 b (col t n)) := by
  rw [outs_eq]
  refine Finset.sum_congr rfl fun r hr => ?_
  have hr' : r < 14208 := Finset.mem_range.mp hr
  refine congrArg (fun z : EReal => ext (arrX m c) b (src r) * z) ?_
  show wt (rowsW (iblk m c 1 t)) (rowsS (iblk m c 2 t)) (rowsS (iblk m c 3 t)) r n = wtAll (arrW m c) (arrS m c) (arrM m c) r (col t n)
  unfold wt wtAll rowsW rowsS
  rw [dif_pos hr', dif_pos (by omega), dif_pos (by omega), dif_pos (by omega), blk1, blk2, blk3]

/-- What point `t` writes back is block `t` of the whole output array. -/
theorem flushed4_eq (c : Dev nD) (t : Fin cfg0.N) :
    (dats m 0 c).flushed 4 t = ((cfg0.win 4).blk t).view.read (Elt Ideal) (arrOut (arrX m c) (arrW m c) (arrS m c) (arrM m c)) := by
  show (cfg0.win 4).cut (grid0.coords t) ((dats m 0 c).after 4 t) = _
  rw [after0_4]
  obtain ⟨-, -, -, -, -, -, -, -, e0, e1⟩ := idx_facts t
  funext y
  have hx : (cfg0.win 4).xinj (grid0.coords t) y = ix2 (y 0 : Fin 8) (y 1 : Fin 768) :=
    funext fun a => Fin.ext (match a with | ⟨0, _⟩ => rfl | ⟨1, _⟩ => rfl)
  show (outsAt0 m c t.val t.isLt).1 ((cfg0.win 4).xinj (grid0.coords t) y)
    = arrOut (arrX m c) (arrW m c) (arrS m c) (arrM m c) (((cfg0.win 4).blk t).view.emb y)
  refine (congrArg (outsAt0 m c t.val t.isLt).1 hx).trans ((outs_apply m c t (y 0) (y 1)).trans ?_)
  refine congrArg (arrOut (arrX m c) (arrW m c) (arrS m c) (arrM m c)) (funext fun a => Fin.ext ?_)
  match a with
  | ⟨0, _⟩ => show (y 0).val = win0_4.index t (0 : Fin 2) * 8 + 1 * (y 0).val; omega
  | ⟨1, _⟩ => show 768 * t.val + (y 1).val = win0_4.index t (1 : Fin 2) * 768 + 1 * (y 1).val; omega

/-- Every point writes its block back. -/
theorem flush4 : ∀ t : Fin cfg0.N, (cfg0.win 4).flush t = true := (by decide +kernel : ∀ t : Fin grid0.N, win0_4.flush t = true)

/-- An index of the array is in point `t`'s block iff each coordinate is in the block's range on its axis. -/
theorem mem_blk4 (t : Fin cfg0.N) (i : S8x6912.Idx) :
    i ∈ ((cfg0.win 4).blk t).view.set ↔ ∀ a : Fin 2, win0_4.index t a * S8x768.size a ≤ (i a).val ∧ (i a).val < win0_4.index t a * S8x768.size a + S8x768.size a := by
  show i ∈ ((View.whole main_v4).slice (win0_4.rect t)).set ↔ _
  rw [View.set_slice_whole, Rect.mem_set_unit]
  exact Iff.rfl

/-- The output array after the run. -/
theorem final4 (c : Dev nD) : (dats m 0 c).arrAt 4 cfg0.N = arrOut (arrX m c) (arrW m c) (arrS m c) (arrM m c) :=
  (dats m 0 c).arrAt_eq_of_cover 4 _ (fun t _ => flushed4_eq m c t) (fun i => by
    have h0 : (i 0).val < 8 := (i 0).isLt
    have h1 : (i 1).val < 6912 := (i 1).isLt
    refine ⟨⟨(i 1).val / 768, lt_of_lt_of_eq (by omega) N_0.symm⟩, flush4 _, ?_⟩
    rw [mem_blk4]
    obtain ⟨-, -, -, -, -, -, -, -, e0, e1⟩ := idx_facts ⟨(i 1).val / 768, lt_of_lt_of_eq (by omega) N_0.symm⟩
    intro a
    match a with
    | ⟨0, _⟩ => show win0_4.index _ (0 : Fin 2) * 8 ≤ (i 0).val ∧ (i 0).val < win0_4.index _ (0 : Fin 2) * 8 + 8; omega
    | ⟨1, _⟩ => show win0_4.index _ (1 : Fin 2) * 768 ≤ (i 1).val ∧ (i 1).val < win0_4.index _ (1 : Fin 2) * 768 + 768; simp only [] at e1; omega)

/-! ### The host's lines before and after -/

theorem arrX_eq (c : Dev nD) : arrX m c = shapeCast S8x14208 (m ((c : Thread nD τ).loc main_arg0)) shapeCasts_S8x1x14208_S8x14208 := by
  show StableHlo.after (List.flatten [hostOps0]) (fun b => m (c, b)) (Proc.devRef .tc main_v0) = _
  simp only [List.flatten_cons, List.flatten_nil, List.append_nil, hostOps0]
  after_results <;> rfl

theorem arrW_eq (c : Dev nD) : arrW m c = transpose S7104x6912 [1, 0] (m ((c : Thread nD τ).loc main_arg1)) transposes_S6912x7104_S7104x6912_1_0 := by
  show StableHlo.after (List.flatten [hostOps0]) (fun b => m (c, b)) (Proc.devRef .tc main_v1) = _
  simp only [List.flatten_cons, List.flatten_nil, List.append_nil, hostOps0]
  after_results <;> rfl

theorem arrS_eq (c : Dev nD) : arrS m c = transpose S444x6912 [1, 0] (m ((c : Thread nD τ).loc main_arg2)) transposes_S6912x444_S444x6912_1_0 := by
  show StableHlo.after (List.flatten [hostOps0]) (fun b => m (c, b)) (Proc.devRef .tc main_v2) = _
  simp only [List.flatten_cons, List.flatten_nil, List.append_nil, hostOps0]
  after_results <;> rfl

theorem arrM_eq (c : Dev nD) : arrM m c = transpose S444x6912 [1, 0] (m ((c : Thread nD τ).loc main_arg3)) transposes_S6912x444_S444x6912_1_0 := by
  show StableHlo.after (List.flatten [hostOps0]) (fun b => m (c, b)) (Proc.devRef .tc main_v3) = _
  simp only [List.flatten_cons, List.flatten_nil, List.append_nil, hostOps0]
  after_results <;> rfl

/-- The result array: the output array with a unit axis put in. -/
theorem tail_eq (c : Dev nD) : Pipeline.afterTail₀ cfgs (dats m) 0 (V0 m) [hostOps1] c main_v5
    = shapeCast S8x1x6912 (arrOut (arrX m c) (arrW m c) (arrS m c) (arrM m c)) shapeCasts_S8x6912_S8x1x6912 := by
  rw [← final4]
  have e := Pipeline.withArrays_arr spec0 (by decide) c (V0 m c) (fun w => (dats m 0 c).arrAt w cfg0.N) 4
  unfold Pipeline.afterTail₀
  simp only [List.flatten_cons, List.flatten_nil, List.append_nil, hostOps1]
  after_results
  exact congrArg (fun z => shapeCast S8x1x6912 z shapeCasts_S8x6912_S8x1x6912) e

/-- The kernel program's result, for given arguments. -/
def result (a0 : Vec Ideal S8x1x14208 .bf16) (a1 : Vec Ideal S6912x7104 .i8) (a2 a3 : Vec Ideal S6912x444 .bf16) : Vec Ideal S8x1x6912 .bf16 :=
  shapeCast S8x1x6912 (arrOut (shapeCast S8x14208 a0 shapeCasts_S8x1x14208_S8x14208)
    (transpose S7104x6912 [1, 0] a1 transposes_S6912x7104_S7104x6912_1_0)
    (transpose S444x6912 [1, 0] a2 transposes_S6912x444_S444x6912_1_0)
    (transpose S444x6912 [1, 0] a3 transposes_S6912x444_S444x6912_1_0)) shapeCasts_S8x6912_S8x1x6912

/-- Every run of the kernel program ends with the result array at `result` of the arguments, the arguments unchanged. -/
theorem run : θ_run defs (onTc (τ := τ) (main (F := Ideal))) ⟨m, fun _ => 0, ρ⟩ fun r => ∀ c : Dev nD,
      r.2.mem ((c.tc : Thread nD τ).loc main_v5) = result (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  have h5 : θ_run defs (onTc (τ := τ) (main (F := Ideal))) ⟨m, fun _ => 0, ρ⟩ fun r => ∀ c : Dev nD,
      r.2.mem ((c.tc : Thread nD τ).loc main_v5) = result (m ((c.tc : Thread nD τ).loc main_arg0)) (m ((c.tc : Thread nD τ).loc main_arg1))
        (m ((c.tc : Thread nD τ).loc main_arg2)) (m ((c.tc : Thread nD τ).loc main_arg3)) :=
    (θ_run defs _ _).mono (fun _ h c => by
      have e := ((h c).2 main_v5 (Pipeline.mem_restRefs_of main_v5 (by decide) (by decide))).trans (tail_eq m c)
      rw [arrX_eq, arrW_eq, arrS_eq, arrM_eq] at e
      exact e) (run_main m ρ)
  exact (θ_run defs _ _).mono (fun _ h c => ⟨h.1 c, h.2 c⟩) (θ_run_and h5 (unchanged m ρ))

end Cert.KernelIdeal.Body

end
-- ==== Proof.RefValue.lean ====
module

public import proofs.«01_k».proof.Proof.Gen.ReferenceIdeal.Run
public import Idealize.ShloMosaic.Lib.TwoAxisContraction
public import Idealize.ShloMosaic.Lib.Pipeline.Value
public import Idealize.ShloMosaic.Lib.IdealHost
public import Idealize.ShloMosaic.PureOps.Ideal.Laws

@[expose] public section

set_option maxRecDepth 16384

noncomputable section

namespace Cert.ReferenceIdeal.Body

open Cert.ReferenceIdeal Cert.ReferenceIdeal.Gen
open Idealize.ShloMosaic Idealize.ShloMosaic.TcCoe Idealize.SL.Sem Idealize.ShloMosaic.StableHlo
open Idealize.ShloMosaic.ValueIdx (ix2 ix3 ix4 contrEquiv2 sum_contr2 contrEquiv2_symm_val0 contrEquiv2_symm_val1)

/-! ## What the reference computes, element by element, over the extended reals -/

section
variable (a0 : FVec Ideal S8x1x14208 .bf16) (a1 : IVec S6912x7104 8) (a2 a3 : FVec Ideal S6912x444 .bf16)

/-- The packed bytes by group, widened. -/
def bytes : IVec S6912x444x16 32 := extui 32 (shapeCast S6912x444x16 a1 shapeCasts_S6912x7104_S6912x444x16) natLt_8_32

/-- A per-group array repeated over the group's sixteen bytes. -/
def rep (a : FVec Ideal S6912x444 .bf16) : FVec Ideal S6912x444x16 .bf16 :=
  broadcastInDim S6912x444x16 ![0, 1, 2] bcast_S6912x444x1_S6912x444x16_0_1_2 (broadcastInDim S6912x444x1 ![0, 1] bcast_S6912x444_S6912x444x1_0_1 a)

/-- The weights of the groups' first halves, and of their second halves. -/
def wLo : FVec Ideal S6912x444x16 .bf16 :=
  addf (mulf (sitofp .bf16 (andi (bytes a1) (broadcastInDim S6912x444x16 ![] bcast_S_S6912x444x16 (constantI S_ 32 15#32)))) (rep a2)) (rep a3)
def wHi : FVec Ideal S6912x444x16 .bf16 :=
  addf (mulf (sitofp .bf16 (Host.shrsi (bytes a1) (broadcastInDim S6912x444x16 ![] bcast_S_S6912x444x16 (constantI S_ 32 4#32)))) (rep a2)) (rep a3)

/-- The input by group, its first halves and its second halves. -/
def xGroups : FVec Ideal S8x1x444x32 .bf16 := shapeCast S8x1x444x32 a0 shapeCasts_S8x1x14208_S8x1x444x32
def xLo : FVec Ideal S8x1x444x16 .bf16 := extractStridedSlice S8x1x444x16 ![0, 0, 0, 0] (xGroups a0) slices_S8x1x444x32_S8x1x444x16_0_0_0_0
def xHi : FVec Ideal S8x1x444x16 .bf16 := extractStridedSlice S8x1x444x16 ![0, 0, 0, 16] (xGroups a0) slices_S8x1x444x32_S8x1x444x16_0_0_0_16

/-- The reference's result, for given arguments. -/
def result : FVec Ideal S8x1x6912 .bf16 :=
  truncf .bf16 (addf (Host.dotGeneral dot_S8x1x444x16_S6912x444x16_S8x1x6912_23_12_01_0_n_n none (xLo a0) (wLo a1 a2 a3) : FVec Ideal S8x1x6912 .f32)
    (Host.dotGeneral dot_S8x1x444x16_S6912x444x16_S8x1x6912_23_12_01_0_n_n none (xHi a0) (wHi a1 a2 a3))) bitsLt_bf16_f32

/-- The widened low and high nibbles of a byte, as reals. -/
def lo (b : BitVec 8) : EReal := (((((b.setWidth 32) &&& 15#32 : BitVec 32)).toInt : ℝ) : EReal)
def hi (b : BitVec 8) : EReal := (((((b.setWidth 32).sshiftRight' 4#32 : BitVec 32)).toInt : ℝ) : EReal)

theorem dot_apply (l : FVec Ideal S8x1x444x16 .bf16) (r : FVec Ideal S6912x444x16 .bf16) (b : Fin 8) (o : Fin 6912) :
    (Host.dotGeneral dot_S8x1x444x16_S6912x444x16_S8x1x6912_23_12_01_0_n_n none l r : FVec Ideal S8x1x6912 .f32) (ix3 b (0 : Fin 1) o)
      = ∑ g : Fin 444, ∑ j : Fin 16, l (ix4 b (0 : Fin 1) g j) * r (ix3 o g j) := by
  refine (Ideal.dotGeneral_apply dot_S8x1x444x16_S6912x444x16_S8x1x6912_23_12_01_0_n_n none HostSchedule.single l r (ix3 b (0 : Fin 1) o)).trans ?_
  rw [sum_contr2 _ 444 16 rfl rfl rfl]
  refine Finset.sum_congr rfl fun g _ => Finset.sum_congr rfl fun j _ => ?_
  refine congrArg₂ (· * ·) (congrArg l (funext fun a => Fin.ext ?_)) (congrArg r (funext fun a => Fin.ext ?_))
  · fin_cases a
    · rfl
    · rfl
    · exact contrEquiv2_symm_val0 dot_S8x1x444x16_S6912x444x16_S8x1x6912_23_12_01_0_n_n 444 16 rfl rfl rfl (g, j)
    · exact contrEquiv2_symm_val1 dot_S8x1x444x16_S6912x444x16_S8x1x6912_23_12_01_0_n_n 444 16 rfl rfl rfl (g, j)
  · fin_cases a
    · rfl
    · exact contrEquiv2_symm_val0 dot_S8x1x444x16_S6912x444x16_S8x1x6912_23_12_01_0_n_n 444 16 rfl rfl rfl (g, j)
    · exact contrEquiv2_symm_val1 dot_S8x1x444x16_S6912x444x16_S8x1x6912_23_12_01_0_n_n 444 16 rfl rfl rfl (g, j)

theorem xGroups_apply (b : Fin 8) (g : Fin 444) (j : Fin 32) :
    xGroups a0 (ix4 b (0 : Fin 1) g j) = a0 (ix3 b (0 : Fin 1) ⟨32 * g.val + j.val, by omega⟩) := by
  refine shapeCast_apply _ _ _ _ ?_
  refine (Shape.rowMajor_val_three _).trans (Eq.trans ?_ (Shape.rowMajor_val_four _).symm)
  show (b.val * 1 + 0) * 14208 + (32 * g.val + j.val) = ((b.val * 1 + 0) * 444 + g.val) * 32 + j.val
  omega

theorem xLo_apply (b : Fin 8) (g : Fin 444) (j : Fin 16) :
    xLo a0 (ix4 b (0 : Fin 1) g j) = a0 (ix3 b (0 : Fin 1) ⟨32 * g.val + j.val, by omega⟩) := by
  refine (extractStridedSlice_apply (s := S8x1x444x32) (t := S8x1x444x16) ![0, 0, 0, 0] (xGroups a0) slices_S8x1x444x32_S8x1x444x16_0_0_0_0
    (ix4 b (0 : Fin 1) g j) (ix4 b (0 : Fin 1) g (⟨j.val, by omega⟩ : Fin 32)) (fun a => ?_)).trans (xGroups_apply a0 b g _)
  fin_cases a <;> simp

theorem xHi_apply (b : Fin 8) (g : Fin 444) (j : Fin 16) :
    xHi a0 (ix4 b (0 : Fin 1) g j) = a0 (ix3 b (0 : Fin 1) ⟨32 * g.val + (16 + j.val), by omega⟩) := by
  refine (extractStridedSlice_apply (s := S8x1x444x32) (t := S8x1x444x16) ![0, 0, 0, 16] (xGroups a0) slices_S8x1x444x32_S8x1x444x16_0_0_0_16
    (ix4 b (0 : Fin 1) g j) (ix4 b (0 : Fin 1) g (⟨16 + j.val, by omega⟩ : Fin 32)) (fun a => ?_)).trans (xGroups_apply a0 b g _)
  fin_cases a <;> simp

theorem bytes_apply (o : Fin 6912) (g : Fin 444) (j : Fin 16) :
    bytes a1 (ix3 o g j) = (a1 (ix2 o ⟨16 * g.val + j.val, by omega⟩)).setWidth 32 := by
  refine congrArg (fun z : BitVec 8 => z.setWidth 32) (shapeCast_apply _ _ _ _ ?_)
  refine (Shape.rowMajor_val_two _).trans (Eq.trans ?_ (Shape.rowMajor_val_three _).symm)
  show o.val * 7104 + (16 * g.val + j.val) = (o.val * 444 + g.val) * 16 + j.val
  omega

theorem rep_apply (a : FVec Ideal S6912x444 .bf16) (o : Fin 6912) (g : Fin 444) (j : Fin 16) : rep a (ix3 o g j) = a (ix2 o g) := by
  refine (broadcastInDim_apply _ _ _ _ (ix3 o g (0 : Fin 1)) (fun a => ?_)).trans (broadcastInDim_apply _ _ _ _ (ix2 o g) (fun a => ?_))
  · fin_cases a <;> rfl
  · fin_cases a <;> rfl

theorem wLo_apply (o : Fin 6912) (g : Fin 444) (j : Fin 16) :
    wLo a1 a2 a3 (ix3 o g j) = lo (a1 (ix2 o ⟨16 * g.val + j.val, by omega⟩)) * a2 (ix2 o g) + a3 (ix2 o g) := by
  rw [← rep_apply a2 o g j, ← rep_apply a3 o g j, lo, ← bytes_apply a1 o g j]
  rfl

theorem wHi_apply (o : Fin 6912) (g : Fin 444) (j : Fin 16) :
    wHi a1 a2 a3 (ix3 o g j) = hi (a1 (ix2 o ⟨16 * g.val + j.val, by omega⟩)) * a2 (ix2 o g) + a3 (ix2 o g) := by
  rw [← rep_apply a2 o g j, ← rep_apply a3 o g j, hi, ← bytes_apply a1 o g j]
  rfl

theorem result_apply (b : Fin 8) (o : Fin 6912) : result a0 a1 a2 a3 (ix3 b (0 : Fin 1) o)
    = (∑ g : Fin 444, ∑ j : Fin 16, a0 (ix3 b (0 : Fin 1) ⟨32 * g.val + j.val, by omega⟩)
        * (lo (a1 (ix2 o ⟨16 * g.val + j.val, by omega⟩)) * a2 (ix2 o g) + a3 (ix2 o g)))
      + ∑ g : Fin 444, ∑ j : Fin 16, a0 (ix3 b (0 : Fin 1) ⟨32 * g.val + (16 + j.val), by omega⟩)
        * (hi (a1 (ix2 o ⟨16 * g.val + j.val, by omega⟩)) * a2 (ix2 o g) + a3 (ix2 o g)) := by
  refine (congrArg₂ (fun p q : EReal => p + q) (dot_apply (xLo a0) (wLo a1 a2 a3) b o) (dot_apply (xHi a0) (wHi a1 a2 a3) b o)).trans ?_
  simp only [xLo_apply, xHi_apply, wLo_apply, wHi_apply]

end

/-- Every run of the reference ends with the result array at `result` of the arguments, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v26) = result (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Value.run m ρ

end Cert.ReferenceIdeal.Body

end
-- ==== Proof.Equation.lean ====
module

public import proofs.«01_k».proof.Proof.ArrayValue
public import proofs.«01_k».proof.Proof.RefValue
public import Idealize.ShloMosaic.Lib.ValueLayout

@[expose] public section

set_option maxRecDepth 16384

noncomputable section

namespace Cert.KernelIdeal.Body

open Cert.KernelIdeal Cert.KernelIdeal.Gen
open Idealize.ShloMosaic

/-! ## The two results are equal -/

/-- A sum over a range, cut into equal runs. -/
theorem sum_runs (f : ℕ → EReal) (k n : ℕ) :
    ∑ r ∈ Finset.range (n * k), f r = ∑ g ∈ Finset.range n, ∑ j ∈ Finset.range k, f (k * g + j) := by
  induction n with
  | zero => simp
  | succ n ih => rw [Nat.succ_mul, Finset.sum_range_add, Finset.sum_range_succ, ih, Nat.mul_comm n k]

/-- The codes' rows, group by group: even rows and odd rows of each group of 32. -/
theorem sum_groups (f : ℕ → EReal) : ∑ r ∈ Finset.range 14208, f r
    = (∑ g : Fin 444, ∑ j : Fin 16, f (32 * g.val + 2 * j.val)) + ∑ g : Fin 444, ∑ j : Fin 16, f (32 * g.val + (2 * j.val + 1)) := by
  have h32 : ∀ g : ℕ, ∑ j ∈ Finset.range 32, f (32 * g + j)
      = (∑ j : Fin 16, f (32 * g + 2 * j.val)) + ∑ j : Fin 16, f (32 * g + (2 * j.val + 1)) := fun g => by
    rw [sum_runs (fun j => f (32 * g + j)) 2 16, ← Finset.sum_add_distrib, Finset.sum_range]
    refine Finset.sum_congr rfl fun j _ => ?_
    rw [Finset.sum_range_succ, Finset.sum_range_one, Nat.add_zero]
  rw [sum_runs f 32 444, Finset.sum_range, ← Finset.sum_add_distrib]
  exact Finset.sum_congr rfl fun g _ => h32 g.val

/-- The two halves of a byte's word hold its nibbles. -/
theorem nib_even (b : BitVec 8) {k : ℕ} (h : k % 2 = 0) : nib b k = ReferenceIdeal.Body.lo b := by
  rw [nib, ReferenceIdeal.Body.lo, h]
  exact congrArg (fun z : ℤ => ((z : ℝ) : EReal))
    ((by decide +kernel : ∀ b : BitVec 8, ((word b).extractLsb' (16 * 0) 16).toInt = ((b.setWidth 32) &&& 15#32).toInt) b)

theorem nib_odd (b : BitVec 8) {k : ℕ} (h : k % 2 = 1) : nib b k = ReferenceIdeal.Body.hi b := by
  rw [nib, ReferenceIdeal.Body.hi, h]
  exact congrArg (fun z : ℤ => ((z : ℝ) : EReal))
    ((by decide +kernel : ∀ b : BitVec 8, ((word b).extractLsb' (16 * 1) 16).toInt = ((b.setWidth 32).sshiftRight' 4#32).toInt) b)

section
variable (a0 : Vec Ideal S8x1x14208 .bf16) (a1 : Vec Ideal S6912x7104 .i8) (a2 a3 : Vec Ideal S6912x444 .bf16)

theorem ext_arg (b : Fin 8) (k : ℕ) (h : k < 14208) :
    ext (shapeCast S8x14208 a0 shapeCasts_S8x1x14208_S8x14208) b k = a0 (ix3 b (0 : Fin 1) ⟨k, h⟩) := by
  rw [ext, dif_pos h]
  refine shapeCast_apply _ _ _ _ ?_
  refine (Shape.rowMajor_val_three _).trans (Eq.trans ?_ (Shape.rowMajor_val_two _).symm)
  show (b.val * 1 + 0) * 14208 + k = b.val * 14208 + k
  omega

theorem wtAll_arg (r : ℕ) (o : Fin 6912) (q : Fin 7104) (hq : q.val = r / 2) (g : Fin 444) (hg : g.val = r / 32) :
    wtAll (transpose S7104x6912 [1, 0] a1 transposes_S6912x7104_S7104x6912_1_0)
      (transpose S444x6912 [1, 0] a2 transposes_S6912x444_S444x6912_1_0)
      (transpose S444x6912 [1, 0] a3 transposes_S6912x444_S444x6912_1_0) r o
    = nib (a1 (ix2 o q)) r * a2 (ix2 o g) + a3 (ix2 o g) := by
  have hr : r < 14208 := by have := g.isLt; omega
  have eq : (⟨r / 2, by omega⟩ : Fin 7104) = q := Fin.ext hq.symm
  have eg : (⟨r / 32, by omega⟩ : Fin 444) = g := Fin.ext hg.symm
  rw [wtAll, dif_pos hr, eq, eg]
  refine congrArg₂ (· + ·) (congrArg₂ (· * ·) (congrArg (nib · r) ?_) ?_) ?_ <;> exact ValueIdx.transpose_ix2_apply ..

theorem result_apply (b : Fin 8) (o : Fin 6912) : result a0 a1 a2 a3 (ix3 b (0 : Fin 1) o)
    = arrOut (shapeCast S8x14208 a0 shapeCasts_S8x1x14208_S8x14208)
      (transpose S7104x6912 [1, 0] a1 transposes_S6912x7104_S7104x6912_1_0)
      (transpose S444x6912 [1, 0] a2 transposes_S6912x444_S444x6912_1_0)
      (transpose S444x6912 [1, 0] a3 transposes_S6912x444_S444x6912_1_0) (ix2 b o) := by
  refine shapeCast_apply _ _ _ _ ?_
  refine (Shape.rowMajor_val_two _).trans (Eq.trans ?_ (Shape.rowMajor_val_three _).symm)
  show b.val * 6912 + o.val = (b.val * 1 + 0) * 6912 + o.val
  omega

/-- The kernel program's result is the reference's, for all arguments. -/
theorem result_eq : result a0 a1 a2 a3 = ReferenceIdeal.Body.result a0 a1 a2 a3 := by
  funext y
  obtain ⟨b, z, o, rfl⟩ : ∃ (b : Fin 8) (z : Fin 1) (o : Fin 6912), y = ix3 b z o := ⟨_, _, _, ValueIdx.eq_ix3 y⟩
  obtain rfl : z = 0 := Subsingleton.elim _ _
  refine (result_apply a0 a1 a2 a3 b o).trans (Eq.trans ?_ (ReferenceIdeal.Body.result_apply a0 a1 a2 a3 b o).symm)
  refine (sum_groups _).trans (congrArg₂ (fun p q : EReal => p + q) ?_ ?_)
  · refine Finset.sum_congr rfl fun g _ => Finset.sum_congr rfl fun j _ => ?_
    have hs : src (32 * g.val + 2 * j.val) = 32 * g.val + j.val := by unfold src; omega
    refine congrArg₂ (fun p q : EReal => p * q) ?_ ?_
    · rw [hs]; exact ext_arg a0 b _ (by omega)
    · rw [← nib_even _ (k := 32 * g.val + 2 * j.val) (by omega)]
      exact wtAll_arg a1 a2 a3 _ o ⟨16 * g.val + j.val, by omega⟩ (by simp only []; omega) g (by omega)
  · refine Finset.sum_congr rfl fun g _ => Finset.sum_congr rfl fun j _ => ?_
    have hs : src (32 * g.val + (2 * j.val + 1)) = 32 * g.val + (16 + j.val) := by unfold src; omega
    refine congrArg₂ (fun p q : EReal => p * q) ?_ ?_
    · rw [hs]; exact ext_arg a0 b _ (by omega)
    · rw [← nib_odd _ (k := 32 * g.val + (2 * j.val + 1)) (by omega)]
      exact wtAll_arg a1 a2 a3 _ o ⟨16 * g.val + j.val, by omega⟩ (by simp only []; omega) g (by omega)

end

end Cert.KernelIdeal.Body

end
-- ==== Proof.lean ====
module

public import proofs.«01_k».proof.Defs
public import proofs.«01_k».proof.Proof.Printed
public import proofs.«01_k».proof.Proof.Equation
public import Idealize.ShloMosaic.Lib.Quiescent

@[expose] public section

namespace Cert.Proof

open Idealize.ShloMosaic Idealize.ShloMosaic.TcCoe Idealize.SL.Sem

/-- The reference runs, leaves its arguments alone, and has no counter to leave off zero. -/
theorem quiescent_ReferenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Body.run m ρ)

/-- Over the extended reals the kernel and the reference end with equal results. -/
theorem algebraic_KernelIdeal_ReferenceIdeal : Cert.algebraic_KernelIdeal_ReferenceIdeal := by
  intro m ρ m' ρ' _ hagree
  refine ⟨_, Cert.KernelIdeal.Body.run m ρ, ?_⟩
  refine (θ_run Cert.ReferenceIdeal.defs _ _).mono (fun _ h c => ⟨?_, (h c).2⟩) (Cert.ReferenceIdeal.Body.run m' ρ')
  obtain ⟨e0, e1, e2, e3⟩ := hagree c
  refine (h c).1.trans ?_
  rw [e0, e1, e2, e3]
  exact (Cert.KernelIdeal.Body.result_eq _ _ _ _).symm

theorem claim : Cert.Claim :=
  ⟨Cert.Kernel.Gen.facts, Cert.KernelIdeal.Gen.facts, Cert.ReferenceIdeal.Gen.facts,
    fun m ρ _ => Cert.Kernel.Body.frame m ρ,
    fun m ρ _ => Cert.KernelIdeal.Body.frame m ρ,
    quiescent_ReferenceIdeal, trivial, algebraic_KernelIdeal_ReferenceIdeal⟩

end Cert.Proof

end
